-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2684354 : Shape := ⟨2, ![2, 2684354]⟩
abbrev S2684354 : Shape := ⟨1, ![2684354]⟩
abbrev S5368708 : Shape := ⟨1, ![5368708]⟩
abbrev S262144 : Shape := ⟨1, ![262144]⟩
abbrev S131072 : Shape := ⟨1, ![131072]⟩
abbrev S1024x128 : Shape := ⟨2, ![1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x2684354, .i32⟩
  | .hbm, ⟨1, _⟩ => ⟨S2684354, .f32⟩
  | .hbm, ⟨2, _⟩ => ⟨S5368708, .i32⟩
  | .hbm, ⟨3, _⟩ => ⟨S5368708, .i32⟩
  | .hbm, ⟨4, _⟩ => ⟨S2684354, .f32⟩
  | .hbm, ⟨5, _⟩ => ⟨S2x2684354, .i32⟩
  | .local _ .vmem, ⟨0, _⟩ => ⟨S262144, .i32⟩
  | .local _ .vmem, ⟨1, _⟩ => ⟨S262144, .i32⟩
  | .local _ .vmem, ⟨2, _⟩ => ⟨S131072, .f32⟩
  | .local _ .vmem, ⟨3, _⟩ => ⟨S131072, .f32⟩
  | .local _ .vmem, ⟨4, _⟩ => ⟨S262144, .i32⟩
  | .local _ .vmem, ⟨5, _⟩ => ⟨S262144, .i32⟩
  | .local _ .vmem, ⟨6, _⟩ => ⟨S131072, .f32⟩
  | .local _ .vmem, ⟨7, _⟩ => ⟨S131072, .f32⟩
  | _, _ => ⟨S2x2684354, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![21], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S262144 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S131072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x2684354 : Shape := ⟨2, ![2, 2684354]⟩
abbrev S2684354 : Shape := ⟨1, ![2684354]⟩
abbrev S_ : Shape := ⟨0, ![]⟩
abbrev S1 : Shape := ⟨1, ![1]⟩
abbrev S2 : Shape := ⟨1, ![2]⟩

abbrev nBuf : Space → Nat
  | .hbm => 280
  | .vmem => 0
  | .smem => 0
  | _ => 0

abbrev hbmTy0_0 (i : Nat) : BufTy := match i % 128 with
  | 0 => ⟨S2x2684354, .i32⟩
  | 1 => ⟨S2684354, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S_, .f32⟩
  | 17 => ⟨S1, .f32⟩
  | 18 => ⟨S1, .f32⟩
  | 19 => ⟨S1, .i32⟩
  | 20 => ⟨S_, .i32⟩
  | 21 => ⟨S1, .i32⟩
  | 22 => ⟨S_, .i32⟩
  | 23 => ⟨S2684354, .i64⟩
  | 24 => ⟨S_, .i64⟩
  | 25 => ⟨S2684354, .i64⟩
  | 26 => ⟨S2684354, .i64⟩
  | 27 => ⟨S_, .i64⟩
  | 28 => ⟨S2684354, .i64⟩
  | 29 => ⟨S2684354, .i64⟩
  | 30 => ⟨S2684354, .i32⟩
  | 31 => ⟨S2684354, .i32⟩
  | 32 => ⟨S_, .i32⟩
  | 33 => ⟨S_, .i32⟩
  | 34 => ⟨S_, .i32⟩
  | 35 => ⟨S2684354, .i32⟩
  | 36 => ⟨S2684354, .i32⟩
  | 37 => ⟨S2684354, .i32⟩
  | 38 => ⟨S2684354, .i32⟩
  | 39 => ⟨S2684354, .i32⟩
  | 40 => ⟨S_, .i32⟩
  | 41 => ⟨S2684354, .i32⟩
  | 42 => ⟨S2684354, .i32⟩
  | 43 => ⟨S_, .i32⟩
  | 44 => ⟨S2684354, .i32⟩
  | 45 => ⟨S2684354, .i32⟩
  | 46 => ⟨S2684354, .i32⟩
  | 47 => ⟨S2684354, .i32⟩
  | 48 => ⟨S2684354, .i32⟩
  | 49 => ⟨S_, .i32⟩
  | 50 => ⟨S2684354, .i32⟩
  | 51 => ⟨S2684354, .i32⟩
  | 52 => ⟨S_, .i32⟩
  | 53 => ⟨S2684354, .i32⟩
  | 54 => ⟨S2684354, .i32⟩
  | 55 => ⟨S2684354, .i32⟩
  | 56 => ⟨S2684354, .i32⟩
  | 57 => ⟨S2684354, .i32⟩
  | 58 => ⟨S_, .i32⟩
  | 59 => ⟨S2684354, .i32⟩
  | 60 => ⟨S2684354, .i32⟩
  | 61 => ⟨S_, .i32⟩
  | 62 => ⟨S2684354, .i32⟩
  | 63 => ⟨S2684354, .i32⟩
  | 64 => ⟨S2684354, .i32⟩
  | 65 => ⟨S2684354, .i32⟩
  | 66 => ⟨S2684354, .i32⟩
  | 67 => ⟨S_, .i32⟩
  | 68 => ⟨S2684354, .i32⟩
  | 69 => ⟨S2684354, .i32⟩
  | 70 => ⟨S_, .i32⟩
  | 71 => ⟨S2684354, .i32⟩
  | 72 => ⟨S2684354, .i32⟩
  | 73 => ⟨S2684354, .i32⟩
  | 74 => ⟨S2684354, .i32⟩
  | 75 => ⟨S2684354, .i32⟩
  | 76 => ⟨S2684354, .i32⟩
  | 77 => ⟨S2684354, .i32⟩
  | 78 => ⟨S2684354, .i32⟩
  | 79 => ⟨S_, .i32⟩
  | 80 => ⟨S2684354, .i32⟩
  | 81 => ⟨S2684354, .i32⟩
  | 82 => ⟨S2684354, .i32⟩
  | 83 => ⟨S_, .i32⟩
  | 84 => ⟨S2684354, .i32⟩
  | 85 => ⟨S2684354, .i32⟩
  | 86 => ⟨S_, .i32⟩
  | 87 => ⟨S2684354, .i32⟩
  | 88 => ⟨S2684354, .i32⟩
  | 89 => ⟨S2684354, .i32⟩
  | 90 => ⟨S2684354, .i32⟩
  | 91 => ⟨S2684354, .i32⟩
  | 92 => ⟨S_, .i32⟩
  | 93 => ⟨S2684354, .i32⟩
  | 94 => ⟨S2684354, .i32⟩
  | 95 => ⟨S_, .i32⟩
  | 96 => ⟨S2684354, .i32⟩
  | 97 => ⟨S2684354, .i32⟩
  | 98 => ⟨S2684354, .i32⟩
  | 99 => ⟨S2684354, .i32⟩
  | 100 => ⟨S2684354, .i32⟩
  | 101 => ⟨S_, .i32⟩
  | 102 => ⟨S2684354, .i32⟩
  | 103 => ⟨S2684354, .i32⟩
  | 104 => ⟨S_, .i32⟩
  | 105 => ⟨S2684354, .i32⟩
  | 106 => ⟨S2684354, .i32⟩
  | 107 => ⟨S2684354, .i32⟩
  | 108 => ⟨S2684354, .i32⟩
  | 109 => ⟨S2684354, .i32⟩
  | 110 => ⟨S_, .i32⟩
  | 111 => ⟨S2684354, .i32⟩
  | 112 => ⟨S2684354, .i32⟩
  | 113 => ⟨S_, .i32⟩
  | 114 => ⟨S2684354, .i32⟩
  | 115 => ⟨S2684354, .i32⟩
  | 116 => ⟨S2684354, .i32⟩
  | 117 => ⟨S2684354, .i32⟩
  | 118 => ⟨S2684354, .i32⟩
  | 119 => ⟨S2684354, .i32⟩
  | 120 => ⟨S2684354, .i32⟩
  | 121 => ⟨S2684354, .i32⟩
  | 122 => ⟨S_, .i32⟩
  | 123 => ⟨S2684354, .i32⟩
  | 124 => ⟨S2684354, .i32⟩
  | 125 => ⟨S2684354, .i32⟩
  | 126 => ⟨S_, .i32⟩
  | 127 => ⟨S2684354, .i32⟩
  | _ => ⟨S2x2684354, .i32⟩

abbrev hbmTy0_1 (i : Nat) : BufTy := match i % 128 with
  | 0 => ⟨S2684354, .i32⟩
  | 1 => ⟨S_, .i32⟩
  | 2 => ⟨S2684354, .i32⟩
  | 3 => ⟨S2684354, .i32⟩
  | 4 => ⟨S2684354, .i32⟩
  | 5 => ⟨S2684354, .i32⟩
  | 6 => ⟨S2684354, .i32⟩
  | 7 => ⟨S_, .i32⟩
  | 8 => ⟨S2684354, .i32⟩
  | 9 => ⟨S2684354, .i32⟩
  | 10 => ⟨S_, .i32⟩
  | 11 => ⟨S2684354, .i32⟩
  | 12 => ⟨S2684354, .i32⟩
  | 13 => ⟨S2684354, .i32⟩
  | 14 => ⟨S2684354, .i32⟩
  | 15 => ⟨S2684354, .i32⟩
  | 16 => ⟨S_, .i32⟩
  | 17 => ⟨S2684354, .i32⟩
  | 18 => ⟨S2684354, .i32⟩
  | 19 => ⟨S_, .i32⟩
  | 20 => ⟨S2684354, .i32⟩
  | 21 => ⟨S2684354, .i32⟩
  | 22 => ⟨S2684354, .i32⟩
  | 23 => ⟨S2684354, .i32⟩
  | 24 => ⟨S2684354, .i32⟩
  | 25 => ⟨S_, .i32⟩
  | 26 => ⟨S2684354, .i32⟩
  | 27 => ⟨S2684354, .i32⟩
  | 28 => ⟨S_, .i32⟩
  | 29 => ⟨S2684354, .i32⟩
  | 30 => ⟨S2684354, .i32⟩
  | 31 => ⟨S2684354, .i32⟩
  | 32 => ⟨S2684354, .i32⟩
  | 33 => ⟨S2684354, .i32⟩
  | 34 => ⟨S2684354, .i32⟩
  | 35 => ⟨S2684354, .i32⟩
  | 36 => ⟨S2684354, .i32⟩
  | 37 => ⟨S_, .i32⟩
  | 38 => ⟨S2684354, .i32⟩
  | 39 => ⟨S2684354, .i32⟩
  | 40 => ⟨S2684354, .i32⟩
  | 41 => ⟨S_, .i32⟩
  | 42 => ⟨S2684354, .i32⟩
  | 43 => ⟨S2684354, .i32⟩
  | 44 => ⟨S_, .i32⟩
  | 45 => ⟨S2684354, .i32⟩
  | 46 => ⟨S2684354, .i32⟩
  | 47 => ⟨S2684354, .i32⟩
  | 48 => ⟨S2684354, .i32⟩
  | 49 => ⟨S2684354, .i32⟩
  | 50 => ⟨S_, .i32⟩
  | 51 => ⟨S2684354, .i32⟩
  | 52 => ⟨S2684354, .i32⟩
  | 53 => ⟨S_, .i32⟩
  | 54 => ⟨S2684354, .i32⟩
  | 55 => ⟨S2684354, .i32⟩
  | 56 => ⟨S2684354, .i32⟩
  | 57 => ⟨S2684354, .i32⟩
  | 58 => ⟨S2684354, .i32⟩
  | 59 => ⟨S_, .i32⟩
  | 60 => ⟨S2684354, .i32⟩
  | 61 => ⟨S2684354, .i32⟩
  | 62 => ⟨S_, .i32⟩
  | 63 => ⟨S2684354, .i32⟩
  | 64 => ⟨S2684354, .i32⟩
  | 65 => ⟨S2684354, .i32⟩
  | 66 => ⟨S2684354, .i32⟩
  | 67 => ⟨S2684354, .i32⟩
  | 68 => ⟨S_, .i32⟩
  | 69 => ⟨S2684354, .i32⟩
  | 70 => ⟨S2684354, .i32⟩
  | 71 => ⟨S_, .i32⟩
  | 72 => ⟨S2684354, .i32⟩
  | 73 => ⟨S2684354, .i32⟩
  | 74 => ⟨S2684354, .i32⟩
  | 75 => ⟨S2684354, .i32⟩
  | 76 => ⟨S2684354, .i32⟩
  | 77 => ⟨S2684354, .i32⟩
  | 78 => ⟨S2684354, .i32⟩
  | 79 => ⟨S2684354, .i32⟩
  | 80 => ⟨S_, .i32⟩
  | 81 => ⟨S2684354, .i32⟩
  | 82 => ⟨S2684354, .i32⟩
  | 83 => ⟨S2684354, .i32⟩
  | 84 => ⟨S_, .i32⟩
  | 85 => ⟨S2684354, .i32⟩
  | 86 => ⟨S2684354, .i32⟩
  | 87 => ⟨S_, .i32⟩
  | 88 => ⟨S2684354, .i32⟩
  | 89 => ⟨S2684354, .i32⟩
  | 90 => ⟨S2684354, .i32⟩
  | 91 => ⟨S2684354, .i32⟩
  | 92 => ⟨S2684354, .i32⟩
  | 93 => ⟨S_, .i32⟩
  | 94 => ⟨S2684354, .i32⟩
  | 95 => ⟨S2684354, .i32⟩
  | 96 => ⟨S_, .i32⟩
  | 97 => ⟨S2684354, .i32⟩
  | 98 => ⟨S2684354, .i32⟩
  | 99 => ⟨S2684354, .i32⟩
  | 100 => ⟨S2684354, .i32⟩
  | 101 => ⟨S2684354, .i32⟩
  | 102 => ⟨S_, .i32⟩
  | 103 => ⟨S2684354, .i32⟩
  | 104 => ⟨S2684354, .i32⟩
  | 105 => ⟨S_, .i32⟩
  | 106 => ⟨S2684354, .i32⟩
  | 107 => ⟨S2684354, .i32⟩
  | 108 => ⟨S2684354, .i32⟩
  | 109 => ⟨S2684354, .i32⟩
  | 110 => ⟨S2684354, .i32⟩
  | 111 => ⟨S_, .i32⟩
  | 112 => ⟨S2684354, .i32⟩
  | 113 => ⟨S2684354, .i32⟩
  | 114 => ⟨S_, .i32⟩
  | 115 => ⟨S2684354, .i32⟩
  | 116 => ⟨S2684354, .i32⟩
  | 117 => ⟨S2684354, .i32⟩
  | 118 => ⟨S2684354, .i32⟩
  | 119 => ⟨S2684354, .i32⟩
  | 120 => ⟨S2684354, .i32⟩
  | 121 => ⟨S2684354, .i32⟩
  | 122 => ⟨S2684354, .i32⟩
  | 123 => ⟨S_, .i32⟩
  | 124 => ⟨S2684354, .i32⟩
  | 125 => ⟨S2684354, .i32⟩
  | 126 => ⟨S2684354, .i32⟩
  | 127 => ⟨S_, .i32⟩
  | _ => ⟨S2x2684354, .i32⟩

abbrev hbmTy0_2 (i : Nat) : BufTy := match i % 128 with
  | 0 => ⟨S2684354, .i32⟩
  | 1 => ⟨S2684354, .i32⟩
  | 2 => ⟨S_, .i32⟩
  | 3 => ⟨S2684354, .i32⟩
  | 4 => ⟨S2684354, .i32⟩
  | 5 => ⟨S2684354, .f32⟩
  | 6 => ⟨S_, .f32⟩
  | 7 => ⟨S2684354, .f32⟩
  | 8 => ⟨S2684354, .f32⟩
  | 9 => ⟨S1, .f32⟩
  | 10 => ⟨S2684354, .f32⟩
  | 11 => ⟨S2684354, .f32⟩
  | 12 => ⟨S2684354, .f32⟩
  | 13 => ⟨S2684354, .f32⟩
  | 14 => ⟨S2684354, .f32⟩
  | 15 => ⟨S2684354, .f32⟩
  | 16 => ⟨S2684354, .f32⟩
  | 17 => ⟨S2684354, .i1⟩
  | 18 => ⟨S_, .f32⟩
  | 19 => ⟨S2684354, .f32⟩
  | 20 => ⟨S2684354, .f32⟩
  | 21 => ⟨S_, .f32⟩
  | 22 => ⟨S2684354, .f32⟩
  | 23 => ⟨S2684354, .f32⟩
  | _ => ⟨S2x2684354, .i32⟩

abbrev hbmTy (i : Nat) : BufTy := match i / 128 with
  | 0 => hbmTy0_0 i
  | 1 => hbmTy0_1 i
  | 2 => hbmTy0_2 i
  | _ => ⟨S2x2684354, .i32⟩

abbrev bufTy : (tb : Table) → Fin (tcTables nBuf tb) → BufTy
  | .hbm, ⟨i, _⟩ => hbmTy i
  | _, _ => ⟨S2x2684354, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_c_0 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_call0_v0 : Ref sig .tc := ⟨.hbm, 32, rfl⟩
abbrev main_call0_call0_call0_c : Ref sig .tc := ⟨.hbm, 33, rfl⟩
abbrev main_call0_call0_call0_v1 : Ref sig .tc := ⟨.hbm, 34, rfl⟩
abbrev main_call0_call0_call0_v2 : Ref sig .tc := ⟨.hbm, 35, rfl⟩
abbrev main_call0_call0_call0_v3 : Ref sig .tc := ⟨.hbm, 36, rfl⟩
abbrev main_call0_call0_call0_v4 : Ref sig .tc := ⟨.hbm, 37, rfl⟩
abbrev main_call0_call0_call0_v5 : Ref sig .tc := ⟨.hbm, 38, rfl⟩
abbrev main_call0_call0_call0_v6 : Ref sig .tc := ⟨.hbm, 39, rfl⟩
abbrev main_call0_call0_call0_c_0 : Ref sig .tc := ⟨.hbm, 40, rfl⟩
abbrev main_call0_call0_call0_v7 : Ref sig .tc := ⟨.hbm, 41, rfl⟩
abbrev main_call0_call0_call0_v8 : Ref sig .tc := ⟨.hbm, 42, rfl⟩
abbrev main_call0_call0_call0_c_1 : Ref sig .tc := ⟨.hbm, 43, rfl⟩
abbrev main_call0_call0_call0_v9 : Ref sig .tc := ⟨.hbm, 44, rfl⟩
abbrev main_call0_call0_call0_v10 : Ref sig .tc := ⟨.hbm, 45, rfl⟩
abbrev main_call0_call0_call0_v11 : Ref sig .tc := ⟨.hbm, 46, rfl⟩
abbrev main_call0_call0_call0_v12 : Ref sig .tc := ⟨.hbm, 47, rfl⟩
abbrev main_call0_call0_call0_v13 : Ref sig .tc := ⟨.hbm, 48, rfl⟩
abbrev main_call0_call0_call0_c_2 : Ref sig .tc := ⟨.hbm, 49, rfl⟩
abbrev main_call0_call0_call0_v14 : Ref sig .tc := ⟨.hbm, 50, rfl⟩
abbrev main_call0_call0_call0_v15 : Ref sig .tc := ⟨.hbm, 51, rfl⟩
abbrev main_call0_call0_call0_c_3 : Ref sig .tc := ⟨.hbm, 52, rfl⟩
abbrev main_call0_call0_call0_v16 : Ref sig .tc := ⟨.hbm, 53, rfl⟩
abbrev main_call0_call0_call0_v17 : Ref sig .tc := ⟨.hbm, 54, rfl⟩
abbrev main_call0_call0_call0_v18 : Ref sig .tc := ⟨.hbm, 55, rfl⟩
abbrev main_call0_call0_call0_v19 : Ref sig .tc := ⟨.hbm, 56, rfl⟩
abbrev main_call0_call0_call0_v20 : Ref sig .tc := ⟨.hbm, 57, rfl⟩
abbrev main_call0_call0_call0_c_4 : Ref sig .tc := ⟨.hbm, 58, rfl⟩
abbrev main_call0_call0_call0_v21 : Ref sig .tc := ⟨.hbm, 59, rfl⟩
abbrev main_call0_call0_call0_v22 : Ref sig .tc := ⟨.hbm, 60, rfl⟩
abbrev main_call0_call0_call0_c_5 : Ref sig .tc := ⟨.hbm, 61, rfl⟩
abbrev main_call0_call0_call0_v23 : Ref sig .tc := ⟨.hbm, 62, rfl⟩
abbrev main_call0_call0_call0_v24 : Ref sig .tc := ⟨.hbm, 63, rfl⟩
abbrev main_call0_call0_call0_v25 : Ref sig .tc := ⟨.hbm, 64, rfl⟩
abbrev main_call0_call0_call0_v26 : Ref sig .tc := ⟨.hbm, 65, rfl⟩
abbrev main_call0_call0_call0_v27 : Ref sig .tc := ⟨.hbm, 66, rfl⟩
abbrev main_call0_call0_call0_c_6 : Ref sig .tc := ⟨.hbm, 67, rfl⟩
abbrev main_call0_call0_call0_v28 : Ref sig .tc := ⟨.hbm, 68, rfl⟩
abbrev main_call0_call0_call0_v29 : Ref sig .tc := ⟨.hbm, 69, rfl⟩
abbrev main_call0_call0_call0_c_7 : Ref sig .tc := ⟨.hbm, 70, rfl⟩
abbrev main_call0_call0_call0_v30 : Ref sig .tc := ⟨.hbm, 71, rfl⟩
abbrev main_call0_call0_call0_v31 : Ref sig .tc := ⟨.hbm, 72, rfl⟩
abbrev main_call0_call0_call0_v32 : Ref sig .tc := ⟨.hbm, 73, rfl⟩
abbrev main_call0_call0_call0_v33 : Ref sig .tc := ⟨.hbm, 74, rfl⟩
abbrev main_call0_call0_call0_v34 : Ref sig .tc := ⟨.hbm, 75, rfl⟩
abbrev main_call0_call0_call0_v35 : Ref sig .tc := ⟨.hbm, 76, rfl⟩
abbrev main_call0_call0_call0_v36 : Ref sig .tc := ⟨.hbm, 77, rfl⟩
abbrev main_call0_call0_call0_v37 : Ref sig .tc := ⟨.hbm, 78, rfl⟩
abbrev main_call0_call0_call0_c_8 : Ref sig .tc := ⟨.hbm, 79, rfl⟩
abbrev main_call0_call0_call0_v38 : Ref sig .tc := ⟨.hbm, 80, rfl⟩
abbrev main_call0_call0_call0_v39 : Ref sig .tc := ⟨.hbm, 81, rfl⟩
abbrev main_call0_call0_call0_v40 : Ref sig .tc := ⟨.hbm, 82, rfl⟩
abbrev main_call0_call0_call0_c_9 : Ref sig .tc := ⟨.hbm, 83, rfl⟩
abbrev main_call0_call0_call0_v41 : Ref sig .tc := ⟨.hbm, 84, rfl⟩
abbrev main_call0_call0_call0_v42 : Ref sig .tc := ⟨.hbm, 85, rfl⟩
abbrev main_call0_call0_call0_c_10 : Ref sig .tc := ⟨.hbm, 86, rfl⟩
abbrev main_call0_call0_call0_v43 : Ref sig .tc := ⟨.hbm, 87, rfl⟩
abbrev main_call0_call0_call0_v44 : Ref sig .tc := ⟨.hbm, 88, rfl⟩
abbrev main_call0_call0_call0_v45 : Ref sig .tc := ⟨.hbm, 89, rfl⟩
abbrev main_call0_call0_call0_v46 : Ref sig .tc := ⟨.hbm, 90, rfl⟩
abbrev main_call0_call0_call0_v47 : Ref sig .tc := ⟨.hbm, 91, rfl⟩
abbrev main_call0_call0_call0_c_11 : Ref sig .tc := ⟨.hbm, 92, rfl⟩
abbrev main_call0_call0_call0_v48 : Ref sig .tc := ⟨.hbm, 93, rfl⟩
abbrev main_call0_call0_call0_v49 : Ref sig .tc := ⟨.hbm, 94, rfl⟩
abbrev main_call0_call0_call0_c_12 : Ref sig .tc := ⟨.hbm, 95, rfl⟩
abbrev main_call0_call0_call0_v50 : Ref sig .tc := ⟨.hbm, 96, rfl⟩
abbrev main_call0_call0_call0_v51 : Ref sig .tc := ⟨.hbm, 97, rfl⟩
abbrev main_call0_call0_call0_v52 : Ref sig .tc := ⟨.hbm, 98, rfl⟩
abbrev main_call0_call0_call0_v53 : Ref sig .tc := ⟨.hbm, 99, rfl⟩
abbrev main_call0_call0_call0_v54 : Ref sig .tc := ⟨.hbm, 100, rfl⟩
abbrev main_call0_call0_call0_c_13 : Ref sig .tc := ⟨.hbm, 101, rfl⟩
abbrev main_call0_call0_call0_v55 : Ref sig .tc := ⟨.hbm, 102, rfl⟩
abbrev main_call0_call0_call0_v56 : Ref sig .tc := ⟨.hbm, 103, rfl⟩
abbrev main_call0_call0_call0_c_14 : Ref sig .tc := ⟨.hbm, 104, rfl⟩
abbrev main_call0_call0_call0_v57 : Ref sig .tc := ⟨.hbm, 105, rfl⟩
abbrev main_call0_call0_call0_v58 : Ref sig .tc := ⟨.hbm, 106, rfl⟩
abbrev main_call0_call0_call0_v59 : Ref sig .tc := ⟨.hbm, 107, rfl⟩
abbrev main_call0_call0_call0_v60 : Ref sig .tc := ⟨.hbm, 108, rfl⟩
abbrev main_call0_call0_call0_v61 : Ref sig .tc := ⟨.hbm, 109, rfl⟩
abbrev main_call0_call0_call0_c_15 : Ref sig .tc := ⟨.hbm, 110, rfl⟩
abbrev main_call0_call0_call0_v62 : Ref sig .tc := ⟨.hbm, 111, rfl⟩
abbrev main_call0_call0_call0_v63 : Ref sig .tc := ⟨.hbm, 112, rfl⟩
abbrev main_call0_call0_call0_c_16 : Ref sig .tc := ⟨.hbm, 113, rfl⟩
abbrev main_call0_call0_call0_v64 : Ref sig .tc := ⟨.hbm, 114, rfl⟩
abbrev main_call0_call0_call0_v65 : Ref sig .tc := ⟨.hbm, 115, rfl⟩
abbrev main_call0_call0_call0_v66 : Ref sig .tc := ⟨.hbm, 116, rfl⟩
abbrev main_call0_call0_call0_v67 : Ref sig .tc := ⟨.hbm, 117, rfl⟩
abbrev main_call0_call0_call0_v68 : Ref sig .tc := ⟨.hbm, 118, rfl⟩
abbrev main_call0_call0_call0_v69 : Ref sig .tc := ⟨.hbm, 119, rfl⟩
abbrev main_call0_call0_call0_v70 : Ref sig .tc := ⟨.hbm, 120, rfl⟩
abbrev main_call0_call0_call0_v71 : Ref sig .tc := ⟨.hbm, 121, rfl⟩
abbrev main_call0_call0_call0_c_17 : Ref sig .tc := ⟨.hbm, 122, rfl⟩
abbrev main_call0_call0_call0_v72 : Ref sig .tc := ⟨.hbm, 123, rfl⟩
abbrev main_call0_call0_call0_v73 : Ref sig .tc := ⟨.hbm, 124, rfl⟩
abbrev main_call0_call0_call0_v74 : Ref sig .tc := ⟨.hbm, 125, rfl⟩
abbrev main_call0_call0_call0_c_18 : Ref sig .tc := ⟨.hbm, 126, rfl⟩
abbrev main_call0_call0_call0_v75 : Ref sig .tc := ⟨.hbm, 127, rfl⟩
abbrev main_call0_call0_call0_v76 : Ref sig .tc := ⟨.hbm, 128, rfl⟩
abbrev main_call0_call0_call0_c_19 : Ref sig .tc := ⟨.hbm, 129, rfl⟩
abbrev main_call0_call0_call0_v77 : Ref sig .tc := ⟨.hbm, 130, rfl⟩
abbrev main_call0_call0_call0_v78 : Ref sig .tc := ⟨.hbm, 131, rfl⟩
abbrev main_call0_call0_call0_v79 : Ref sig .tc := ⟨.hbm, 132, rfl⟩
abbrev main_call0_call0_call0_v80 : Ref sig .tc := ⟨.hbm, 133, rfl⟩
abbrev main_call0_call0_call0_v81 : Ref sig .tc := ⟨.hbm, 134, rfl⟩
abbrev main_call0_call0_call0_c_20 : Ref sig .tc := ⟨.hbm, 135, rfl⟩
abbrev main_call0_call0_call0_v82 : Ref sig .tc := ⟨.hbm, 136, rfl⟩
abbrev main_call0_call0_call0_v83 : Ref sig .tc := ⟨.hbm, 137, rfl⟩
abbrev main_call0_call0_call0_c_21 : Ref sig .tc := ⟨.hbm, 138, rfl⟩
abbrev main_call0_call0_call0_v84 : Ref sig .tc := ⟨.hbm, 139, rfl⟩
abbrev main_call0_call0_call0_v85 : Ref sig .tc := ⟨.hbm, 140, rfl⟩
abbrev main_call0_call0_call0_v86 : Ref sig .tc := ⟨.hbm, 141, rfl⟩
abbrev main_call0_call0_call0_v87 : Ref sig .tc := ⟨.hbm, 142, rfl⟩
abbrev main_call0_call0_call0_v88 : Ref sig .tc := ⟨.hbm, 143, rfl⟩
abbrev main_call0_call0_call0_c_22 : Ref sig .tc := ⟨.hbm, 144, rfl⟩
abbrev main_call0_call0_call0_v89 : Ref sig .tc := ⟨.hbm, 145, rfl⟩
abbrev main_call0_call0_call0_v90 : Ref sig .tc := ⟨.hbm, 146, rfl⟩
abbrev main_call0_call0_call0_c_23 : Ref sig .tc := ⟨.hbm, 147, rfl⟩
abbrev main_call0_call0_call0_v91 : Ref sig .tc := ⟨.hbm, 148, rfl⟩
abbrev main_call0_call0_call0_v92 : Ref sig .tc := ⟨.hbm, 149, rfl⟩
abbrev main_call0_call0_call0_v93 : Ref sig .tc := ⟨.hbm, 150, rfl⟩
abbrev main_call0_call0_call0_v94 : Ref sig .tc := ⟨.hbm, 151, rfl⟩
abbrev main_call0_call0_call0_v95 : Ref sig .tc := ⟨.hbm, 152, rfl⟩
abbrev main_call0_call0_call0_c_24 : Ref sig .tc := ⟨.hbm, 153, rfl⟩
abbrev main_call0_call0_call0_v96 : Ref sig .tc := ⟨.hbm, 154, rfl⟩
abbrev main_call0_call0_call0_v97 : Ref sig .tc := ⟨.hbm, 155, rfl⟩
abbrev main_call0_call0_call0_c_25 : Ref sig .tc := ⟨.hbm, 156, rfl⟩
abbrev main_call0_call0_call0_v98 : Ref sig .tc := ⟨.hbm, 157, rfl⟩
abbrev main_call0_call0_call0_v99 : Ref sig .tc := ⟨.hbm, 158, rfl⟩
abbrev main_call0_call0_call0_v100 : Ref sig .tc := ⟨.hbm, 159, rfl⟩
abbrev main_call0_call0_call0_v101 : Ref sig .tc := ⟨.hbm, 160, rfl⟩
abbrev main_call0_call0_call0_v102 : Ref sig .tc := ⟨.hbm, 161, rfl⟩
abbrev main_call0_call0_call0_v103 : Ref sig .tc := ⟨.hbm, 162, rfl⟩
abbrev main_call0_call0_call0_v104 : Ref sig .tc := ⟨.hbm, 163, rfl⟩
abbrev main_call0_call0_call0_v105 : Ref sig .tc := ⟨.hbm, 164, rfl⟩
abbrev main_call0_call0_call0_c_26 : Ref sig .tc := ⟨.hbm, 165, rfl⟩
abbrev main_call0_call0_call0_v106 : Ref sig .tc := ⟨.hbm, 166, rfl⟩
abbrev main_call0_call0_call0_v107 : Ref sig .tc := ⟨.hbm, 167, rfl⟩
abbrev main_call0_call0_call0_v108 : Ref sig .tc := ⟨.hbm, 168, rfl⟩
abbrev main_call0_call0_call0_c_27 : Ref sig .tc := ⟨.hbm, 169, rfl⟩
abbrev main_call0_call0_call0_v109 : Ref sig .tc := ⟨.hbm, 170, rfl⟩
abbrev main_call0_call0_call0_v110 : Ref sig .tc := ⟨.hbm, 171, rfl⟩
abbrev main_call0_call0_call0_c_28 : Ref sig .tc := ⟨.hbm, 172, rfl⟩
abbrev main_call0_call0_call0_v111 : Ref sig .tc := ⟨.hbm, 173, rfl⟩
abbrev main_call0_call0_call0_v112 : Ref sig .tc := ⟨.hbm, 174, rfl⟩
abbrev main_call0_call0_call0_v113 : Ref sig .tc := ⟨.hbm, 175, rfl⟩
abbrev main_call0_call0_call0_v114 : Ref sig .tc := ⟨.hbm, 176, rfl⟩
abbrev main_call0_call0_call0_v115 : Ref sig .tc := ⟨.hbm, 177, rfl⟩
abbrev main_call0_call0_call0_c_29 : Ref sig .tc := ⟨.hbm, 178, rfl⟩
abbrev main_call0_call0_call0_v116 : Ref sig .tc := ⟨.hbm, 179, rfl⟩
abbrev main_call0_call0_call0_v117 : Ref sig .tc := ⟨.hbm, 180, rfl⟩
abbrev main_call0_call0_call0_c_30 : Ref sig .tc := ⟨.hbm, 181, rfl⟩
abbrev main_call0_call0_call0_v118 : Ref sig .tc := ⟨.hbm, 182, rfl⟩
abbrev main_call0_call0_call0_v119 : Ref sig .tc := ⟨.hbm, 183, rfl⟩
abbrev main_call0_call0_call0_v120 : Ref sig .tc := ⟨.hbm, 184, rfl⟩
abbrev main_call0_call0_call0_v121 : Ref sig .tc := ⟨.hbm, 185, rfl⟩
abbrev main_call0_call0_call0_v122 : Ref sig .tc := ⟨.hbm, 186, rfl⟩
abbrev main_call0_call0_call0_c_31 : Ref sig .tc := ⟨.hbm, 187, rfl⟩
abbrev main_call0_call0_call0_v123 : Ref sig .tc := ⟨.hbm, 188, rfl⟩
abbrev main_call0_call0_call0_v124 : Ref sig .tc := ⟨.hbm, 189, rfl⟩
abbrev main_call0_call0_call0_c_32 : Ref sig .tc := ⟨.hbm, 190, rfl⟩
abbrev main_call0_call0_call0_v125 : Ref sig .tc := ⟨.hbm, 191, rfl⟩
abbrev main_call0_call0_call0_v126 : Ref sig .tc := ⟨.hbm, 192, rfl⟩
abbrev main_call0_call0_call0_v127 : Ref sig .tc := ⟨.hbm, 193, rfl⟩
abbrev main_call0_call0_call0_v128 : Ref sig .tc := ⟨.hbm, 194, rfl⟩
abbrev main_call0_call0_call0_v129 : Ref sig .tc := ⟨.hbm, 195, rfl⟩
abbrev main_call0_call0_call0_c_33 : Ref sig .tc := ⟨.hbm, 196, rfl⟩
abbrev main_call0_call0_call0_v130 : Ref sig .tc := ⟨.hbm, 197, rfl⟩
abbrev main_call0_call0_call0_v131 : Ref sig .tc := ⟨.hbm, 198, rfl⟩
abbrev main_call0_call0_call0_c_34 : Ref sig .tc := ⟨.hbm, 199, rfl⟩
abbrev main_call0_call0_call0_v132 : Ref sig .tc := ⟨.hbm, 200, rfl⟩
abbrev main_call0_call0_call0_v133 : Ref sig .tc := ⟨.hbm, 201, rfl⟩
abbrev main_call0_call0_call0_v134 : Ref sig .tc := ⟨.hbm, 202, rfl⟩
abbrev main_call0_call0_call0_v135 : Ref sig .tc := ⟨.hbm, 203, rfl⟩
abbrev main_call0_call0_call0_v136 : Ref sig .tc := ⟨.hbm, 204, rfl⟩
abbrev main_call0_call0_call0_v137 : Ref sig .tc := ⟨.hbm, 205, rfl⟩
abbrev main_call0_call0_call0_v138 : Ref sig .tc := ⟨.hbm, 206, rfl⟩
abbrev main_call0_call0_call0_v139 : Ref sig .tc := ⟨.hbm, 207, rfl⟩
abbrev main_call0_call0_call0_c_35 : Ref sig .tc := ⟨.hbm, 208, rfl⟩
abbrev main_call0_call0_call0_v140 : Ref sig .tc := ⟨.hbm, 209, rfl⟩
abbrev main_call0_call0_call0_v141 : Ref sig .tc := ⟨.hbm, 210, rfl⟩
abbrev main_call0_call0_call0_v142 : Ref sig .tc := ⟨.hbm, 211, rfl⟩
abbrev main_call0_call0_call0_c_36 : Ref sig .tc := ⟨.hbm, 212, rfl⟩
abbrev main_call0_call0_call0_v143 : Ref sig .tc := ⟨.hbm, 213, rfl⟩
abbrev main_call0_call0_call0_v144 : Ref sig .tc := ⟨.hbm, 214, rfl⟩
abbrev main_call0_call0_call0_c_37 : Ref sig .tc := ⟨.hbm, 215, rfl⟩
abbrev main_call0_call0_call0_v145 : Ref sig .tc := ⟨.hbm, 216, rfl⟩
abbrev main_call0_call0_call0_v146 : Ref sig .tc := ⟨.hbm, 217, rfl⟩
abbrev main_call0_call0_call0_v147 : Ref sig .tc := ⟨.hbm, 218, rfl⟩
abbrev main_call0_call0_call0_v148 : Ref sig .tc := ⟨.hbm, 219, rfl⟩
abbrev main_call0_call0_call0_v149 : Ref sig .tc := ⟨.hbm, 220, rfl⟩
abbrev main_call0_call0_call0_c_38 : Ref sig .tc := ⟨.hbm, 221, rfl⟩
abbrev main_call0_call0_call0_v150 : Ref sig .tc := ⟨.hbm, 222, rfl⟩
abbrev main_call0_call0_call0_v151 : Ref sig .tc := ⟨.hbm, 223, rfl⟩
abbrev main_call0_call0_call0_c_39 : Ref sig .tc := ⟨.hbm, 224, rfl⟩
abbrev main_call0_call0_call0_v152 : Ref sig .tc := ⟨.hbm, 225, rfl⟩
abbrev main_call0_call0_call0_v153 : Ref sig .tc := ⟨.hbm, 226, rfl⟩
abbrev main_call0_call0_call0_v154 : Ref sig .tc := ⟨.hbm, 227, rfl⟩
abbrev main_call0_call0_call0_v155 : Ref sig .tc := ⟨.hbm, 228, rfl⟩
abbrev main_call0_call0_call0_v156 : Ref sig .tc := ⟨.hbm, 229, rfl⟩
abbrev main_call0_call0_call0_c_40 : Ref sig .tc := ⟨.hbm, 230, rfl⟩
abbrev main_call0_call0_call0_v157 : Ref sig .tc := ⟨.hbm, 231, rfl⟩
abbrev main_call0_call0_call0_v158 : Ref sig .tc := ⟨.hbm, 232, rfl⟩
abbrev main_call0_call0_call0_c_41 : Ref sig .tc := ⟨.hbm, 233, rfl⟩
abbrev main_call0_call0_call0_v159 : Ref sig .tc := ⟨.hbm, 234, rfl⟩
abbrev main_call0_call0_call0_v160 : Ref sig .tc := ⟨.hbm, 235, rfl⟩
abbrev main_call0_call0_call0_v161 : Ref sig .tc := ⟨.hbm, 236, rfl⟩
abbrev main_call0_call0_call0_v162 : Ref sig .tc := ⟨.hbm, 237, rfl⟩
abbrev main_call0_call0_call0_v163 : Ref sig .tc := ⟨.hbm, 238, rfl⟩
abbrev main_call0_call0_call0_c_42 : Ref sig .tc := ⟨.hbm, 239, rfl⟩
abbrev main_call0_call0_call0_v164 : Ref sig .tc := ⟨.hbm, 240, rfl⟩
abbrev main_call0_call0_call0_v165 : Ref sig .tc := ⟨.hbm, 241, rfl⟩
abbrev main_call0_call0_call0_c_43 : Ref sig .tc := ⟨.hbm, 242, rfl⟩
abbrev main_call0_call0_call0_v166 : Ref sig .tc := ⟨.hbm, 243, rfl⟩
abbrev main_call0_call0_call0_v167 : Ref sig .tc := ⟨.hbm, 244, rfl⟩
abbrev main_call0_call0_call0_v168 : Ref sig .tc := ⟨.hbm, 245, rfl⟩
abbrev main_call0_call0_call0_v169 : Ref sig .tc := ⟨.hbm, 246, rfl⟩
abbrev main_call0_call0_call0_v170 : Ref sig .tc := ⟨.hbm, 247, rfl⟩
abbrev main_call0_call0_v15_0 : Ref sig .tc := ⟨.hbm, 248, rfl⟩
abbrev main_call0_call0_call0_v172 : Ref sig .tc := ⟨.hbm, 249, rfl⟩
abbrev main_call0_call0_call0_v173 : Ref sig .tc := ⟨.hbm, 250, rfl⟩
abbrev main_call0_call0_call0_c_44 : Ref sig .tc := ⟨.hbm, 251, rfl⟩
abbrev main_call0_call0_call0_v174 : Ref sig .tc := ⟨.hbm, 252, rfl⟩
abbrev main_call0_call0_v15_1 : Ref sig .tc := ⟨.hbm, 253, rfl⟩
abbrev main_call0_call0_v16 : Ref sig .tc := ⟨.hbm, 254, rfl⟩
abbrev main_call0_call0_c_1 : Ref sig .tc := ⟨.hbm, 255, rfl⟩
abbrev main_call0_call0_v17 : Ref sig .tc := ⟨.hbm, 256, rfl⟩
abbrev main_call0_call0_v18 : Ref sig .tc := ⟨.hbm, 257, rfl⟩
abbrev main_call0_call0_c_2 : Ref sig .tc := ⟨.hbm, 258, rfl⟩
abbrev main_call0_call0_v19 : Ref sig .tc := ⟨.hbm, 259, rfl⟩
abbrev main_call0_call0_v20 : Ref sig .tc := ⟨.hbm, 260, rfl⟩
abbrev main_call0_call0_v21 : Ref sig .tc := ⟨.hbm, 261, rfl⟩
abbrev main_call0_call0_cst : Ref sig .tc := ⟨.hbm, 262, rfl⟩
abbrev main_call0_call0_v22 : Ref sig .tc := ⟨.hbm, 263, rfl⟩
abbrev main_call0_call0_v23 : Ref sig .tc := ⟨.hbm, 264, rfl⟩
abbrev main_call0_call0_v24 : Ref sig .tc := ⟨.hbm, 265, rfl⟩
abbrev main_call0_call0_v25 : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_v0 : Ref sig .tc := ⟨.hbm, 271, rfl⟩
abbrev main_call0_v1 : Ref sig .tc := ⟨.hbm, 272, rfl⟩
abbrev main_v7 : Ref sig .tc := ⟨.hbm, 273, rfl⟩
abbrev main_cst_2 : Ref sig .tc := ⟨.hbm, 274, rfl⟩
abbrev main_v8 : Ref sig .tc := ⟨.hbm, 275, rfl⟩
abbrev main_v9 : Ref sig .tc := ⟨.hbm, 276, rfl⟩
abbrev main_cst_3 : Ref sig .tc := ⟨.hbm, 277, rfl⟩
abbrev main_v10 : Ref sig .tc := ⟨.hbm, 278, rfl⟩
abbrev main_v11 : Ref sig .tc := ⟨.hbm, 279, rfl⟩

abbrev nD : Nat := 1
abbrev τ : Topo := Topo.v7x

variable {F : FTy → Type} [FloatOps F]
-- ==== Proof.Word.lean ====
module

public import proofs.«01_k».proof.Proof.Gen.KernelIdeal.Skeleton

@[expose] public section

noncomputable section

namespace Cert.Dropout

open Idealize.ShloMosaic

/-! ## The counter generator on single 32-bit words -/

/-- A pair of 32-bit words: the state of the generator between two rounds. -/
abbrev St := BitVec 32 × BitVec 32

/-- The word `x` rotated left by `a` places. -/
def rotl (a : ℕ) (x : BitVec 32) : BitVec 32 := x <<< a ||| x >>> (32 - a)

/-- One round: the first word becomes the sum of the two, the second is rotated left by `a` and xored with that sum. -/
def rnd (a : ℕ) (s : St) : St := (s.1 + s.2, rotl a s.2 ^^^ (s.1 + s.2))

/-- The four rounds of an even group. -/
def grpA (s : St) : St := rnd 6 (rnd 26 (rnd 15 (rnd 13 s)))
/-- The four rounds of an odd group. -/
def grpB (s : St) : St := rnd 24 (rnd 16 (rnd 29 (rnd 17 s)))

/-- The words `a` and `b` added to the two words of a state. -/
def inj (a b : BitVec 32) (s : St) : St := (s.1 + a, s.2 + b)

/-- The state before the last group, from the state the generator starts in, for the key `(0, 42)`, whose third word is
    `466689008`. -/
def mid (s : St) : St :=
  inj 42#32 466689012#32 (grpB (inj 0#32 45#32 (grpA (inj 466689008#32 2#32 (grpB (inj 42#32 466689009#32 (grpA s)))))))

/-- The random word of the counter `n` under the key `(0, 42)`. -/
def bits (n : BitVec 32) : BitVec 32 :=
  let s := inj 466689008#32 5#32 (grpA (mid (0#32, n + 42#32)))
  s.1 ^^^ s.2

/-! ## Whole vectors at an index -/

variable {s : Shape}

/-- One round on whole vectors, as the kernel computes it. -/
def vrnd (a b : BitVec 32) (p : IVec s 32 × IVec s 32) : IVec s 32 × IVec s 32 :=
  (addi p.1 p.2, xori (ori (shli p.2 (broadcast s a)) (shrui p.2 (broadcast s b))) (addi p.1 p.2))

/-- A pair of vectors at an index. -/
def at2 (p : IVec s 32 × IVec s 32) (j : s.Idx) : St := (p.1 j, p.2 j)

/-- A round of whole vectors is, at each index, a round of the two words there. -/
theorem at2_vrnd (a b : BitVec 32) (n : ℕ) (hn : n < 32) (hn0 : 0 < n) (ha : a.toNat = n) (hb : b.toNat = 32 - n)
    (p : IVec s 32 × IVec s 32) (j : s.Idx) : at2 (vrnd a b p) j = rnd n (at2 p j) := by
  have hl : IntOp.shli .vector (p.2 j) a = p.2 j <<< n := by
    unfold IntOp.shli; rw [if_pos (by omega), BitVec.shiftLeft_eq', ha]
  have hr : IntOp.shrui .vector (p.2 j) b = p.2 j >>> (32 - n) := by
    unfold IntOp.shrui; rw [if_pos (by omega), BitVec.ushiftRight_eq', hb]
  refine Prod.ext rfl ?_
  change (IntOp.shli .vector (p.2 j) a ||| IntOp.shrui .vector (p.2 j) b) ^^^ (p.1 j + p.2 j) = _
  rw [hl, hr]; rfl

/-- An even group on whole vectors. -/
def vgrpA (p : IVec s 32 × IVec s 32) : IVec s 32 × IVec s 32 :=
  vrnd 6#32 26#32 (vrnd 26#32 6#32 (vrnd 15#32 17#32 (vrnd 13#32 19#32 p)))
/-- An odd group on whole vectors. -/
def vgrpB (p : IVec s 32 × IVec s 32) : IVec s 32 × IVec s 32 :=
  vrnd 24#32 8#32 (vrnd 16#32 16#32 (vrnd 29#32 3#32 (vrnd 17#32 15#32 p)))
/-- The words `a` and `b` added to two vectors throughout. -/
def vinj (a b : BitVec 32) (p : IVec s 32 × IVec s 32) : IVec s 32 × IVec s 32 :=
  (addi p.1 (broadcast s a), addi p.2 (broadcast s b))

theorem at2_vgrpA (p : IVec s 32 × IVec s 32) (j : s.Idx) : at2 (vgrpA p) j = grpA (at2 p j) := by
  unfold vgrpA grpA
  rw [at2_vrnd _ _ 6 (by decide) (by decide) rfl rfl, at2_vrnd _ _ 26 (by decide) (by decide) rfl rfl,
    at2_vrnd _ _ 15 (by decide) (by decide) rfl rfl, at2_vrnd _ _ 13 (by decide) (by decide) rfl rfl]
theorem at2_vgrpB (p : IVec s 32 × IVec s 32) (j : s.Idx) : at2 (vgrpB p) j = grpB (at2 p j) := by
  unfold vgrpB grpB
  rw [at2_vrnd _ _ 24 (by decide) (by decide) rfl rfl, at2_vrnd _ _ 16 (by decide) (by decide) rfl rfl,
    at2_vrnd _ _ 29 (by decide) (by decide) rfl rfl, at2_vrnd _ _ 17 (by decide) (by decide) rfl rfl]
theorem at2_vinj (a b : BitVec 32) (p : IVec s 32 × IVec s 32) (j : s.Idx) : at2 (vinj a b p) j = inj a b (at2 p j) := rfl

theorem vec_zero_add (x : IVec s 32) : addi (broadcast s 0#32) x = x := funext fun j => BitVec.zero_add (x j)

/-! ## The kernel's payloads are the generator's rounds -/

section Payloads

open Cert.KernelIdeal Cert.KernelIdeal.Gen

variable (i : grid0.Coords) (v39 v41 v42 v83 v88 v129 v134 : IVec S1024x128 32)

/-- The first group: the payloads before the first injection. -/
theorem pay_grp1 : vgrpA (broadcast S1024x128 0#32, k0_pay3 i) = (k0_pay9 i, k0_pay10 i) := by
  have e1 : vrnd 13#32 19#32 (broadcast S1024x128 0#32, k0_pay3 i) = (k0_pay3 i, k0_pay4 i) := by
    unfold vrnd; simp only [vec_zero_add]; rfl
  have e2 : vrnd 15#32 17#32 (k0_pay3 i, k0_pay4 i) = (k0_pay5 i, k0_pay6 i) := rfl
  have e3 : vrnd 26#32 6#32 (k0_pay5 i, k0_pay6 i) = (k0_pay7 i, k0_pay8 i) := rfl
  have e4 : vrnd 6#32 26#32 (k0_pay7 i, k0_pay8 i) = (k0_pay9 i, k0_pay10 i) := rfl
  unfold vgrpA; rw [e1, e2, e3, e4]

/-- The second group with the injection after it. -/
theorem pay_grp2 : vinj 466689008#32 2#32 (vgrpB (v41, k0_pay13 v39 v42))
    = (addi (k0_pay20 v39 v41 v42) (broadcast S1024x128 466689008#32), k0_pay21 v39 v41 v42) := by
  have e1 : vrnd 17#32 15#32 (v41, k0_pay13 v39 v42) = (k0_pay14 v39 v41 v42, k0_pay15 v39 v41 v42) := rfl
  have e2 : vrnd 29#32 3#32 (k0_pay14 v39 v41 v42, k0_pay15 v39 v41 v42) = (k0_pay16 v39 v41 v42, k0_pay17 v39 v41 v42) := rfl
  have e3 : vrnd 16#32 16#32 (k0_pay16 v39 v41 v42, k0_pay17 v39 v41 v42) = (k0_pay18 v39 v41 v42, k0_pay19 v39 v41 v42) := rfl
  unfold vgrpB; rw [e1, e2, e3]; rfl

/-- The first two rounds of the third group. -/
theorem pay_grp3a : vrnd 15#32 17#32 (vrnd 13#32 19#32
      (addi (k0_pay20 v39 v41 v42) (broadcast S1024x128 466689008#32), k0_pay21 v39 v41 v42))
    = (k0_pay24 v39 v41 v42, k0_pay26 (k0_pay24 v39 v41 v42) (k0_pay25 v39 v41 v42)) := by
  have e1 : vrnd 13#32 19#32 (addi (k0_pay20 v39 v41 v42) (broadcast S1024x128 466689008#32), k0_pay21 v39 v41 v42)
    = (k0_pay22 v39 v41 v42, k0_pay23 v39 v41 v42) := rfl
  rw [e1]; rfl

/-- Its last two rounds with the injection after it. -/
theorem pay_grp3b : vinj 0#32 45#32 (vrnd 6#32 26#32 (vrnd 26#32 6#32 (v83, k0_pay26 v83 v88)))
    = (addi (k0_pay29 v83 v88) (broadcast S1024x128 0#32), k0_pay30 v83 v88) := by
  have e1 : vrnd 26#32 6#32 (v83, k0_pay26 v83 v88) = (k0_pay27 v83 v88, k0_pay28 v83 v88) := rfl
  rw [e1]; rfl

/-- The fourth group. -/
theorem pay_grp4 : vgrpB (addi (k0_pay29 v83 v88) (broadcast S1024x128 0#32), k0_pay30 v83 v88)
    = (k0_pay37 v83 v88, xori (k0_pay38 v83 v88) (k0_pay37 v83 v88)) := by
  have e1 : vrnd 17#32 15#32 (addi (k0_pay29 v83 v88) (broadcast S1024x128 0#32), k0_pay30 v83 v88)
    = (k0_pay31 v83 v88, k0_pay32 v83 v88) := rfl
  have e2 : vrnd 29#32 3#32 (k0_pay31 v83 v88, k0_pay32 v83 v88) = (k0_pay33 v83 v88, k0_pay34 v83 v88) := rfl
  have e3 : vrnd 16#32 16#32 (k0_pay33 v83 v88, k0_pay34 v83 v88) = (k0_pay35 v83 v88, k0_pay36 v83 v88) := rfl
  unfold vgrpB; rw [e1, e2, e3]; rfl

/-- The whole generator up to the last group, on vectors. -/
theorem pay_mid : vgrpB (vinj 0#32 45#32 (vgrpA (vinj 466689008#32 2#32 (vgrpB (vinj 42#32 466689009#32
      (vgrpA (broadcast S1024x128 0#32, k0_pay3 i)))))))
    = (k0_pay37 (k0_pay24 (k0_pay10 i) (k0_pay11 i) k0_pay12) (k0_pay25 (k0_pay10 i) (k0_pay11 i) k0_pay12),
        xori (k0_pay38 (k0_pay24 (k0_pay10 i) (k0_pay11 i) k0_pay12) (k0_pay25 (k0_pay10 i) (k0_pay11 i) k0_pay12))
          (k0_pay37 (k0_pay24 (k0_pay10 i) (k0_pay11 i) k0_pay12) (k0_pay25 (k0_pay10 i) (k0_pay11 i) k0_pay12))) := by
  rw [pay_grp1]
  have e1 : vinj 42#32 466689009#32 (k0_pay9 i, k0_pay10 i) = (k0_pay11 i, k0_pay13 (k0_pay10 i) k0_pay12) := rfl
  rw [e1, pay_grp2]
  have e2 (p : IVec S1024x128 32 × IVec S1024x128 32) :
    vgrpA p = vrnd 6#32 26#32 (vrnd 26#32 6#32 (vrnd 15#32 17#32 (vrnd 13#32 19#32 p))) := rfl
  rw [e2, pay_grp3a, pay_grp3b, pay_grp4]

variable {F : FTy → Type} [FloatOps F]

/-- A value kept by the random word `w`: doubled if the word's top bit is clear, else zero. -/
def keepVal (w : BitVec 32) (x : F .f32) : F .f32 :=
  Scalar.select (IntOp.cmpi .sge w 0#32) (FloatOps.addf x x) (Scalar.ofBits .f32 0#32)

/-- The last group, the mask and the doubling, on vectors. -/
theorem pay39_eq (x : S131072.Idx → F .f32) : k0_pay39 v129 v134 x
    = fun j => keepVal ((vinj 466689008#32 5#32 (vgrpA (vinj 42#32 466689012#32 (v129, xori v134 v129)))).1 j
        ^^^ (vinj 466689008#32 5#32 (vgrpA (vinj 42#32 466689012#32 (v129, xori v134 v129)))).2 j)
        (shapeCast S1024x128 x shapeCasts_S131072_S1024x128 j) := rfl

/-- The counter of index `j` of the vector at grid point `i`. -/
theorem pay3_at (j : S1024x128.Idx) : k0_pay3 i j
    = BitVec.ofNat 32 ((i 0).val * 131072 + ((j 0).val * 128 + (j 1).val)) + 42#32 := by
  have h : k0_pay3 i j = BitVec.ofNat 32 ((0 * 1024) + (j 0).val) * 128#32 + BitVec.ofNat 32 ((0 * 128) + (j 1).val)
    + BitVec.ofNat 32 (i 0).val * 131072#32 + 42#32 := rfl
  rw [h]
  simp only [Nat.zero_mul, Nat.zero_add, BitVec.ofNat_add, BitVec.ofNat_mul]
  rw [BitVec.add_comm (BitVec.ofNat 32 (i 0).val * _)]

end Payloads

end Cert.Dropout

end
-- ==== Proof.Body.lean ====
module

public import proofs.«01_k».proof.Proof.Gen.KernelIdeal.Frame
public import proofs.«01_k».proof.Proof.Word
public import Idealize.ShloMosaic.Lib.Pipeline.KitQuiescent
public import Idealize.ShloMosaic.Lib.Pipeline.Value
public import Idealize.ShloMosaic.Lib.VecWindow
public import Idealize.ShloMosaic.Lib.Tactic

@[expose] public section

noncomputable section

namespace Cert.Dropout

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of values the body stores at grid point `i`, from the block `x` of values it loads. -/
def outBlk (i : grid0.Coords) (x : S131072.Idx → Elt F .f32) : S131072.Idx → Elt F .f32 :=
  k0_pay1 (k0_pay39
    (k0_pay37 (k0_pay24 (k0_pay10 i) (k0_pay11 i) k0_pay12) (k0_pay25 (k0_pay10 i) (k0_pay11 i) k0_pay12))
    (k0_pay38 (k0_pay24 (k0_pay10 i) (k0_pay11 i) k0_pay12) (k0_pay25 (k0_pay10 i) (k0_pay11 i) k0_pay12)) x)

/-- The index of the two-dimensional block at the row-major position of `k`. -/
def idx2 (k : S131072.Idx) : S1024x128.Idx
  | ⟨0, _⟩ => (⟨(k 0).val / 128, by have h : (k 0).val < 131072 := (k 0).isLt; show _ < 1024; omega⟩ : Fin 1024)
  | ⟨1, _⟩ => (⟨(k 0).val % 128, Nat.mod_lt _ (by decide)⟩ : Fin 128)

theorem idx2_pos (k : S131072.Idx) : (S1024x128.rowMajor (idx2 k)).val = (S131072.rowMajor k).val := by
  rw [Shape.rowMajor_val_two, Shape.rowMajor_val_one]
  exact Nat.div_add_mod' (k 0).val 128

/-- The block at an index: the value there, kept by the random word of its counter. -/
theorem outBlk_at (i : grid0.Coords) (x : S131072.Idx → Elt F .f32) (k : S131072.Idx) :
    outBlk i x k = keepVal (bits (BitVec.ofNat 32 ((i 0).val * 131072 + (k 0).val))) (x k) := by
  have hk : (idx2 k 0).val * 128 + (idx2 k 1).val = (k 0).val := Nat.div_add_mod' (k 0).val 128
  unfold outBlk k0_pay1
  simp only
  rw [shapeCast_apply _ _ k (idx2 k) (idx2_pos k), pay39_eq]
  simp only
  rw [shapeCast_apply x _ (idx2 k) k (idx2_pos k).symm]
  refine congrArg (keepVal · (x k)) ?_
  rw [← pay_mid i]
  have h (p : IVec S1024x128 32 × IVec S1024x128 32) (j) : p.1 j ^^^ p.2 j = (at2 p j).1 ^^^ (at2 p j).2 := rfl
  rw [h, at2_vinj, at2_vgrpA, at2_vinj, at2_vgrpB, at2_vinj, at2_vgrpA, at2_vinj, at2_vgrpB, at2_vinj, at2_vgrpA]
  have h0 : at2 (broadcast S1024x128 0#32, k0_pay3 i) (idx2 k)
    = (0#32, BitVec.ofNat 32 ((i 0).val * 131072 + (k 0).val) + 42#32) := by
    refine Prod.ext rfl ?_
    change k0_pay3 i (idx2 k) = _
    rw [pay3_at, hk]
  rw [h0]; rfl

/-- The kernel body at a grid point, on any four whole staging buffers: the index block is copied, the block of values
    goes to `outBlk` of it, and the two input buffers are left as found. -/
theorem sound_body (c : Dev nD) (i : grid0.Coords)
    (a1 : Memref sig .tc .vmem S262144 .i32) (h1 : a1.IsWhole) (a2 : Memref sig .tc .vmem S131072 .f32) (h2 : a2.IsWhole)
    (a3 : Memref sig .tc .vmem S262144 .i32) (h3 : a3.IsWhole) (a4 : Memref sig .tc .vmem S131072 .f32) (h4 : a4.IsWhole)
    (X1 X3 : S262144.Idx → Elt F .i32) (X2 X4 : S131072.Idx → Elt F .f32) (K : PUnit → sProp 𝕄) :
    iprop((owns (c : Thread nD τ) a1 fullShare X1 ∗ owns (c : Thread nD τ) a2 fullShare X2
            ∗ owns (c : Thread nD τ) a3 fullShare X3 ∗ owns (c : Thread nD τ) a4 fullShare X4)
          ∗ (iprop(owns (c : Thread nD τ) a1 fullShare X1 ∗ owns (c : Thread nD τ) a2 fullShare X2
            ∗ owns (c : Thread nD τ) a3 fullShare X1 ∗ owns (c : Thread nD τ) a4 fullShare (outBlk i X2)) -∗ K ⟨⟩))
      ⊢ wp frame (wpE (defs₀ (F := F)) Variants.none c none) Set.univ
          (cc0__dropout_body i a1 h1 a2 h2 a3 h3 a4 h4) K := by
  have hz : (![0] : Fin 1 → Nat) = fun _ => 0 := funext fun a => by fin_cases a; rfl
  simp only [cc0__dropout_body_eq_skeleton]; unfold cc0__dropout_body_skel
  simp only [k0_part1_eq_skeleton, k0_part2_eq_skeleton, k0_part3_eq_skeleton, k0_part4_eq_skeleton]
  unfold k0_part1_skel k0_part2_skel k0_part3_skel k0_part4_skel
  unfold owns
  iintro ⟨⟨⟨%f1, %hf1, H1⟩, ⟨%f2, %hf2, H2⟩, ⟨%f3, %hf3, H3⟩, ⟨%f4, %hf4, H4⟩⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro
    rw [View.read_writes_full, View.readAt_eq_ld, hf1, View.ld_unit_zero hz]
    exact shapeCast_self _ _
  · iexists _; isplitr; swap; · iexact H4
    ipureintro
    rw [View.read_writes_full, View.readAt_eq_ld, hf2, View.ld_unit_zero hz]
    rfl

/-! ## The proof data -/

/-- The index block at point `t` on its part inside the array, and the zero word past the array's end. -/
def inIdx (c : Dev nD) (t : Fin cfg0.N) : S262144.Idx → Elt F .i32 :=
  win0_0.fill (grid0.coords t) (fun _ => 0#32) (iblk m c 0 t)
/-- The block of values at point `t` likewise. -/
def inVal (c : Dev nD) (t : Fin cfg0.N) : S131072.Idx → Elt F .f32 :=
  win0_1.fill (grid0.coords t) (fun _ => Scalar.ofBits .f32 0#32) (iblk m c 1 t)

/-- The proof data on core `c`: the arrays as the region finds them; after the body at point `t` the input buffers hold
    their blocks, the index output the index block, and the value output `outBlk` of the block of values. -/
def dats (_ : Fin 1) (c : Dev nD) : Dat τ (Elt F) Unit ℕ (UR sig nD τ) ℕ cfg0 c where
  A w := V m c (Pipeline.arrRef spec0 w)
  after w t := match w with
    | ⟨0, _⟩ => inIdx m c t
    | ⟨1, _⟩ => inVal m c t
    | ⟨2, _⟩ => inIdx m c t
    | ⟨3, _⟩ => outBlk (grid0.coords t) (inVal m c t)
  Φ _ := Pipeline.ΦA spec0 c
  q _ := fullShare
  owed _ := 0

/-- What the body finds in the index input's buffer: the fetched block, anything past the array's end. -/
theorem before_0 (c : Dev nD) (t : Fin cfg0.N) (d) :
    (dats m 0 c).before (0 : Fin 4) t d = win0_0.fill (grid0.coords t) d (iblk m c 0 t) := by
  unfold Dat.before; rw [if_pos (fetch0_0 t)]; rfl
/-- What it finds in the value input's buffer likewise. -/
theorem before_1 (c : Dev nD) (t : Fin cfg0.N) (d) :
    (dats m 0 c).before (1 : Fin 4) t d = win0_1.fill (grid0.coords t) d (iblk m c 1 t) := by
  unfold Dat.before; rw [if_pos (fetch0_1 t)]; rfl

/-- The part of an output block that is written back depends on the same part of the input block only: the body
    works element by element. -/
theorem cut_outBlk (t : Fin cfg0.N) (X Y : S131072.Idx → Elt F .f32)
    (h : win0_1.cut (grid0.coords t) X = win0_1.cut (grid0.coords t) Y) :
    win0_1.cut (grid0.coords t) (outBlk (grid0.coords t) X) = win0_1.cut (grid0.coords t) (outBlk (grid0.coords t) Y) := by
  funext j
  change outBlk _ X _ = outBlk _ Y _
  rw [outBlk_at, outBlk_at]
  exact congrArg (keepVal _) (congrFun h j)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, from `sound_body` at the point's staging buffers. -/
theorem body_obligation (c : Dev nD) : BodyObligationLoose (dats m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1]
  iapply (sound_body (F := F) c (grid0.coords t) _ _ _ _ _ _ _ _
    (win0_0.fill (grid0.coords t) d0 (iblk m c 0 t)) _ (win0_1.fill (grid0.coords t) d1 (iblk m c 1 t)) _ _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win0_0.cut (grid0.coords t) (inIdx m c t) = iblk m c 0 t := win0_0.cut_fill _ _ _
  have hy : win0_1.cut (grid0.coords t) (inVal m c t) = iblk m c 1 t := win0_1.cut_fill _ _ _
  isplitl [H0]
  · iexists d0
    change _ ⊢ owns (c : Thread nD τ) (st0_0 t) fullShare (win0_0.fill (grid0.coords t) d0 (win0_0.cut (grid0.coords t) (inIdx m c t)))
    rw [hx]; try iexact H0
  isplitl [H1]
  · iexists d1
    change _ ⊢ owns (c : Thread nD τ) (st0_1 t) fullShare (win0_1.fill (grid0.coords t) d1 (win0_1.cut (grid0.coords t) (inVal m c t)))
    rw [hy]; try iexact H1
  isplitl [H2]
  · iexists d0
    change _ ⊢ owns (c : Thread nD τ) (st0_2 t) fullShare (win0_0.fill (grid0.coords t) d0 (win0_0.cut (grid0.coords t) (inIdx m c t)))
    rw [hx]; try iexact H2
  · iexists outBlk (grid0.coords t) (win0_1.fill (grid0.coords t) d1 (iblk m c 1 t))
    change _ ⊢ owns (c : Thread nD τ) (st0_3 t) fullShare (win0_1.fill (grid0.coords t) (outBlk (grid0.coords t) (win0_1.fill (grid0.coords t) d1 (iblk m c 1 t)))
      (win0_1.cut (grid0.coords t) (outBlk (grid0.coords t) (inVal m c t))))
    rw [cut_outBlk t (inVal m c t) (win0_1.fill (grid0.coords t) d1 (iblk m c 1 t)) (by rw [hy, Pipeline.Window.cut_fill]),
      Pipeline.Window.fill_cut]
    try iexact H3

set_option backward.isDefEq.respectTransparency.types false in
/-- Every weakly fair execution of the kernel's program terminates with the arrays at the contents the proof data
    compute, the buffers no window uses as the host lines leave them, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hin := fun _ => .rfl) (hout := fun _ => .rfl)
    (hQ' := fun _ h => h)

end Cert.Dropout

end
-- ==== Proof.Frames.lean ====
module

public import proofs.«01_k».proof.Defs
public import proofs.«01_k».proof.Proof.Gen.Kernel
public import proofs.«01_k».proof.Proof.Body

@[expose] public section

set_option maxRecDepth 10000

noncomputable section

namespace Cert.Dropout

open Idealize.ShloMosaic Idealize.ShloMosaic.TcCoe Idealize.SL.Sem

section Generic

open Cert.KernelIdeal Cert.KernelIdeal.Gen

variable {F : FTy → Type} [FloatOps F]

/-- At any instance of the floats the kernel's program runs, leaves its two arguments as it found them and ends with every
    semaphore counter at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨(((h.1 c).2 main_arg0 (Pipeline.mem_restRefs_of main_arg0 (by decide) (by decide))).trans (W_main_arg0 m (dats m) c)),
      ((h.1 c).1 1).trans (((dats m 0 c).arrAt_in 1 rfl _).trans (V_main_arg1 m c))⟩, h.2⟩) (run_main m ρ)

end Generic

/-- The frame of the kernel read at the ideal instance. -/
theorem frame_kernelIdeal : Cert.quiescent_KernelIdeal := fun m ρ _ => frame_any m ρ

/-! ## The program as printed

The idealized program is the printed one read at another instance: same signature, same body, same host lines. -/

theorem body_eq : @Cert.Kernel.cc0__dropout_body Bits _ _ = @Cert.KernelIdeal.cc0__dropout_body Bits _ _ := by
  funext i a1 h1 a2 h2 a3 h3 a4 h4
  rfl

theorem defs₀_eq : @Cert.Kernel.defs₀ Bits _ _ = @Cert.KernelIdeal.defs₀ Bits _ _ := by
  refine congrArg Defs.onTc (funext fun l => funext fun x => ?_)
  match l, x with
  | 0, (t, s) => rfl

theorem defs_eq : @Cert.Kernel.defs Bits _ _ = @Cert.KernelIdeal.defs Bits _ _ := congrArg (Pipeline.defs _) defs₀_eq

/-- The frame of the kernel as printed. -/
theorem frame_kernel : Cert.quiescent_Kernel := fun m ρ _ => by
  have h := frame_any (F := Bits) m ρ
  rw [← defs_eq] at h
  exact h

end Cert.Dropout

end
-- ==== Proof.Out.lean ====
module

public import proofs.«01_k».proof.Proof.Body
public import Idealize.ShloMosaic.Lib.Pipeline.ValueKit
public import Idealize.ShloMosaic.Lib.Claim

@[expose] public section

noncomputable section

namespace Cert.Dropout

open Cert.KernelIdeal Cert.KernelIdeal.Gen

open Idealize.ShloMosaic Idealize.ShloMosaic.TcCoe Idealize.SL.Sem

variable {F : FTy → Type} [FloatOps F]

variable (m : (ℓ : Loc nD τ sig) → Buf (Elt F) ℓ) (ρ : Dev nD → PrngReg)

/-! ## The output arrays after the run -/

/-- The kernel's second result: the value at index `i`, kept by the random word of the counter `i`. -/
def outVal (x : S2684354.Idx → F .f32) : S2684354.Idx → F .f32 :=
  fun i => keepVal (bits (BitVec.ofNat 32 (i 0).val)) (x i)

/-- Where an element of a window's block sits in the array, by its coordinate in the whole block. -/
theorem emb_xinj {G : Pipeline.Grid} (w : Pipeline.Window sig G) (t : Fin G.N) (y : (w.xblock (G.coords t)).Idx)
    (a : Fin w.shape.rank) (hk : w.kind = .blocked) :
    ((w.rect t).emb y a : Nat) = w.index t a * w.size a + (w.xinj (G.coords t) y a).val :=
  w.rect_emb_val t y a hk

/-- The same for the values' output, whose blocks are of `131072`. -/
theorem emb_val (t : Fin cfg0.N) (y : (win0_3.xblock (grid0.coords t)).Idx) : ((win0_3.rect t).emb y (0 : Fin 1)).val
    = win0_3.index t (0 : Fin 1) * 131072 + (win0_3.xinj (grid0.coords t) y (0 : Fin 1)).val :=
  emb_xinj win0_3 t y (0 : Fin 1) rfl

/-- The block's number is the grid point's coordinate. -/
theorem index_val (t : Fin cfg0.N) : win0_3.index t (0 : Fin 1) = (grid0.coords t 0).val := by
  have h : (grid0.coords t 0).val < 21 := (grid0.coords t 0).isLt
  have hi : win0_3.index t (0 : Fin 1) = (BitVec.ofNat 32 (grid0.coords t 0).val).toNat := rfl
  rw [hi, BitVec.toNat_ofNat, Nat.mod_eq_of_lt (by omega)]

/-- The fetched block of values holds the argument's values. -/
theorem inVal_at (c : Dev nD) (t : Fin cfg0.N) (y : (win0_3.xblock (grid0.coords t)).Idx) :
    inVal m c t (win0_3.xinj (grid0.coords t) y) = m ((c : Thread nD τ).loc main_arg1) ((win0_3.rect t).emb y) :=
  (win0_1.fill_xinj (grid0.coords t) _ (iblk m c 1 t) y).trans (congrFun (V_main_arg1 m c) _)

/-- The block the body leaves is the block of `outVal` at the same place. -/
theorem outBlk_eq (c : Dev nD) (t : Fin cfg0.N) (y : (win0_3.xblock (grid0.coords t)).Idx) :
    outBlk (grid0.coords t) (inVal m c t) (win0_3.xinj (grid0.coords t) y)
      = outVal (m ((c : Thread nD τ).loc main_arg1)) ((win0_3.rect t).emb y) := by
  refine (outBlk_at (grid0.coords t) (inVal m c t) (win0_3.xinj (grid0.coords t) y)).trans ?_
  unfold outVal
  rw [inVal_at, emb_val, index_val]

/-- An element written back, in the words of the array it is written to. -/
theorem written_eq (t : Fin cfg0.N) (y : ((cfg0.win 3).xblock (cfg0.grid.coords t)).Idx) (o : S131072.Idx → F .f32)
    (G : S2684354.Idx → F .f32) (h : o (win0_3.xinj (grid0.coords t) y) = G ((win0_3.rect t).emb y)) :
    _root_.cast (congrArg (Elt F) ((cfg0.win 3).blk t).view.elt_eq.symm) (o ((cfg0.win 3).xinj (cfg0.grid.coords t) y))
      = G (((cfg0.win 3).blk t).view.emb y) := h

theorem after_val (c : Dev nD) (t : Fin cfg0.N) :
    (dats m 0 c).after (3 : Fin 4) t = outBlk (grid0.coords t) (inVal m c t) := rfl

theorem covers_val : (cfg0.win 3).Covers := by decide +kernel

/-- The values' output array after the run. -/
theorem arr_val (c : Dev nD) : (dats m 0 c).arrAt (3 : Fin 4) cfg0.N = outVal (m ((c : Thread nD τ).loc main_arg1)) := by
  refine (dats m 0 c).arrAt_eq_of_covers (3 : Fin 4) (outVal (m ((c : Thread nD τ).loc main_arg1))) covers_val fun t _ y => ?_
  have h := outBlk_eq m c t y
  rw [after_val]
  generalize outBlk (grid0.coords t) (inVal m c t) = o at *
  generalize outVal (m ((c : Thread nD τ).loc main_arg1)) = G at *
  exact written_eq t y o G h

theorem written_idx (t : Fin cfg0.N) (y : ((cfg0.win 2).xblock (cfg0.grid.coords t)).Idx) (o : S262144.Idx → BitVec 32)
    (G : S5368708.Idx → BitVec 32) (h : o (win0_0.xinj (grid0.coords t) y) = G ((win0_0.rect t).emb y)) :
    _root_.cast (congrArg (Elt F) ((cfg0.win 2).blk t).view.elt_eq.symm) (o ((cfg0.win 2).xinj (cfg0.grid.coords t) y))
      = G (((cfg0.win 2).blk t).view.emb y) := h

theorem after_idx (c : Dev nD) (t : Fin cfg0.N) : (dats m 0 c).after (2 : Fin 4) t = inIdx m c t := rfl

/-- The indices' output array after the run: the indices' input array. -/
theorem arr_idx (c : Dev nD) : (dats m 0 c).arrAt (2 : Fin 4) cfg0.N = V m c main_v0 := by
  refine (dats m 0 c).arrAt_eq_of_covers (2 : Fin 4) (V m c main_v0) (by decide +kernel) fun t _ y => ?_
  have h : inIdx m c t (win0_0.xinj (grid0.coords t) y) = V m c main_v0 ((win0_0.rect t).emb y) :=
    win0_0.fill_xinj (grid0.coords t) (fun _ => 0#32) (iblk m c 0 t) y
  rw [after_idx]
  generalize inIdx m c t = o at *
  generalize V m c main_v0 = G at *
  exact written_idx (F := F) t y o G h

/-! ## The kernel's results -/

/-- The array the region is entered with: the indices read as one row. -/
theorem V_main_v0 (c : Dev nD) :
    V m c main_v0 = shapeCast S5368708 (m ((c : Thread nD τ).loc main_arg0)) shapeCasts_S2x2684354_S5368708 := by
  simp only [V, V0, List.flatten_cons, List.flatten_nil, List.append_nil, hostOps0]
  after_results_simp
  rfl

/-- The first result: the indices as given. -/
theorem tail_main_v2 (c : Dev nD) :
    Pipeline.afterTail₀ cfgs (dats m) 0 (V0 m) [hostOps1] c main_v2 = m ((c : Thread nD τ).loc main_arg0) := by
  have h : Pipeline.afterTail₀ cfgs (dats m) 0 (V0 m) [hostOps1] c main_v2
      = shapeCast S2x2684354 ((dats m 0 c).arrAt (2 : Fin 4) cfg0.N) shapeCasts_S5368708_S2x2684354 := by
    unfold Pipeline.afterTail₀
    simp only [List.flatten_cons, List.flatten_nil, List.append_nil, hostOps1]
    after_results_simp
    exact congrArg (fun x : S5368708.Idx → BitVec 32 => shapeCast S2x2684354 x shapeCasts_S5368708_S2x2684354)
      (Pipeline.withArrays_arr spec0 launch0.win.arr_inj c (V0 m c) (fun w => (dats m 0 c).arrAt w cfg0.N) (2 : Fin 4))
  rw [h, arr_idx, V_main_v0]
  exact shapeCast_shapeCast ..

/-- At any instance of the floats the kernel's program runs and ends with its indices in the first result, `outVal` of its
    values in the second, and its arguments as it found them. -/
theorem run_any : θ_run (defs (F := F)) (onTc (τ := τ) (main (F := F))) ⟨m, fun _ => 0, ρ⟩ (fun r => ∀ c : Dev nD,
      r.2.mem ((c.tc : Thread nD τ).loc main_v2) = m ((c.tc : Thread nD τ).loc main_arg0)
      ∧ r.2.mem ((c.tc : Thread nD τ).loc main_v1_1) = outVal (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v2 (Pipeline.mem_restRefs_of main_v2 (by decide) (by decide))).trans (tail_main_v2 m c),
      ((h.1 c).1 3).trans (arr_val m c),
      ((h.1 c).2 main_arg0 (Pipeline.mem_restRefs_of main_arg0 (by decide) (by decide))).trans (W_main_arg0 m (dats m) c),
      ((h.1 c).1 1).trans (((dats m 0 c).arrAt_in 1 rfl _).trans (V_main_arg1 m c))⟩) (run_main m ρ)

end Cert.Dropout

end
-- ==== Proof.Ref.lean ====
module

public import proofs.«01_k».proof.Defs
public import proofs.«01_k».proof.Proof.Gen.ReferenceIdeal
public import Idealize.ShloMosaic.Lib.StableHlo.RunHlo
public import Idealize.ShloMosaic.Lib.Quiescent
public import Idealize.ShloMosaic.Lib.Claim

@[expose] public section

noncomputable section

namespace Cert.Dropout.Ref

open Cert.ReferenceIdeal Cert.ReferenceIdeal.Gen

open Idealize.ShloMosaic Idealize.ShloMosaic.TcCoe Idealize.ShloMosaic.StableHlo Idealize.SL.Sem

variable {F : FTy → Type} [FloatOps F]

/-! ## The reference's statements, in eight stretches -/

/-- Statements 1 to 30 of the reference: the key words of the seed 42, and the counters. -/
def opsKey : List (HloOp τ sig (Elt F)) :=
  [ nullary main_c (constantI S_ 32 42#32),
    nullary main_c_0 (constantI S_ 32 32#32),
    binary main_c main_c_0 main_v0 Host.shrui,
    unary main_v0 main_v1 id,
    unary main_v1 main_v2 (broadcastInDim S1 ![] bcast_S_S1),
    nullary main_c_1 (constantI S_ 32 4294967295#32),
    binary main_c main_c_1 main_v3 andi,
    unary main_v3 main_v4 id,
    unary main_v4 main_v5 (broadcastInDim S1 ![] bcast_S_S1),
    binary main_v2 main_v5 main_v6 (fun a b => concatenate S2 0 [⟨S1, a⟩, ⟨S1, b⟩] concatenates_S1_S1_S2_d0),
    nullary main_cst (constant S_ .f32 0x3F000000#32),
    nullary main_call0_cst (constant S_ .f32 0x00000000#32),
    nullary main_call0_cst_0 (constant S_ .f32 0x3F800000#32),
    unary main_call0_cst main_call0_call0_v0 id,
    unary main_call0_cst_0 main_call0_call0_v1 id,
    unary main_call0_call0_v0 main_call0_call0_v2 (broadcastInDim S1 ![] bcast_S_S1),
    unary main_call0_call0_v1 main_call0_call0_v3 (broadcastInDim S1 ![] bcast_S_S1),
    unary main_v6 main_call0_call0_v4 (extractStridedSlice S1 ![0] · slices_S2_S1_0),
    reshape main_call0_call0_v4 main_call0_call0_v5 rfl shapeCasts_S1_S_,
    unary main_v6 main_call0_call0_v6 (extractStridedSlice S1 ![1] · slices_S2_S1_1),
    reshape main_call0_call0_v6 main_call0_call0_v7 rfl shapeCasts_S1_S_,
    nullary main_call0_call0_v8 (iotaInDim S2684354 64 0),
    nullary main_call0_call0_c (constantI S_ 64 1#64),
    unary main_call0_call0_c main_call0_call0_v9 (broadcastInDim S2684354 ![] bcast_S_S2684354),
    binary main_call0_call0_v9 main_call0_call0_v8 main_call0_call0_v10 muli,
    nullary main_call0_call0_c_0 (constantI S_ 64 32#64),
    unary main_call0_call0_c_0 main_call0_call0_v11 (broadcastInDim S2684354 ![] bcast_S_S2684354),
    binary main_call0_call0_v10 main_call0_call0_v11 main_call0_call0_v12 Host.shrui,
    unary main_call0_call0_v10 main_call0_call0_v13 (trunci 32 · natLt_32_64),
    unary main_call0_call0_v12 main_call0_call0_v14 (trunci 32 · natLt_32_64) ]

/-- Statements 31 to 37 of the reference: the key schedule's third word, and the first addition of the keys. -/
def opsIni : List (HloOp τ sig (Elt F)) :=
  [ binary main_call0_call0_v5 main_call0_call0_v7 main_call0_call0_call0_v0 xori,
    nullary main_call0_call0_call0_c (constantI S_ 32 466688986#32),
    binary main_call0_call0_call0_v0 main_call0_call0_call0_c main_call0_call0_call0_v1 xori,
    unary main_call0_call0_v5 main_call0_call0_call0_v2 (broadcastInDim S2684354 ![] bcast_S_S2684354),
    binary main_call0_call0_v14 main_call0_call0_call0_v2 main_call0_call0_call0_v3 addi,
    unary main_call0_call0_v7 main_call0_call0_call0_v4 (broadcastInDim S2684354 ![] bcast_S_S2684354),
    binary main_call0_call0_v13 main_call0_call0_call0_v4 main_call0_call0_call0_v5 addi ]

/-- Statements 38 to 80 of the reference: the first group of four rounds, then its key words. -/
def opsGrp0 : List (HloOp τ sig (Elt F)) :=
  [ binary main_call0_call0_call0_v3 main_call0_call0_call0_v5 main_call0_call0_call0_v6 addi,
    nullary main_call0_call0_call0_c_0 (constantI S_ 32 13#32),
    unary main_call0_call0_call0_c_0 main_call0_call0_call0_v7 (broadcastInDim S2684354 ![] bcast_S_S2684354),
    binary main_call0_call0_call0_v5 main_call0_call0_call0_v7 main_call0_call0_call0_v8 Host.shli,
    nullary main_call0_call0_call0_c_1 (constantI S_ 32 19#32),
    unary main_call0_call0_call0_c_1 main_call0_call0_call0_v9 (broadcastInDim S2684354 ![] bcast_S_S2684354),
    binary main_call0_call0_call0_v5 main_call0_call0_call0_v9 main_call0_call0_call0_v10 Host.shrui,
    binary main_call0_call0_call0_v8 main_call0_call0_call0_v10 main_call0_call0_call0_v11 ori,
    binary main_call0_call0_call0_v6 main_call0_call0_call0_v11 main_call0_call0_call0_v12 xori,
    binary main_call0_call0_call0_v6 main_call0_call0_call0_v12 main_call0_call0_call0_v13 addi,
    nullary main_call0_call0_call0_c_2 (constantI S_ 32 15#32),
    unary main_call0_call0_call0_c_2 main_call0_call0_call0_v14 (broadcastInDim S2684354 ![] bcast_S_S2684354),
    binary main_call0_call0_call0_v12 main_call0_call0_call0_v14 main_call0_call0_call0_v15 Host.shli,
    nullary main_call0_call0_call0_c_3 (constantI S_ 32 17#32),
    unary main_call0_call0_call0_c_3 main_call0_call0_call0_v16 (broadcastInDim S2684354 ![] bcast_S_S2684354),
    binary main_call0_call0_call0_v12 main_call0_call0_call0_v16 main_call0_call0_call0_v17 Host.shrui,
    binary main_call0_call0_call0_v15 main_call0_call0_call0_v17 main_call0_call0_call0_v18 ori,
    binary main_call0_call0_call0_v13 main_call0_call0_call0_v18 main_call0_call0_call0_v19 xori,
    binary main_call0_call0_call0_v13 main_call0_call0_call0_v19 main_call0_call0_call0_v20 addi,
    nullary main_call0_call0_call0_c_4 (constantI S_ 32 26#32),
    unary main_call0_call0_call0_c_4 main_call0_call0_call0_v21 (broadcastInDim S2684354 ![] bcast_S_S2684354),
    binary main_call0_call0_call0_v19 main_call0_call0_call0_v21 main_call0_call0_call0_v22 Host.shli,
    nullary main_call0_call0_call0_c_5 (constantI S_ 32 6#32),
    unary main_call0_call0_call0_c_5 main_call0_call0_call0_v23 (broadcastInDim S2684354 ![] bcast_S_S2684354),
    binary main_call0_call0_call0_v19 main_call0_call0_call0_v23 main_call0_call0_call0_v24 Host.shrui,
    binary main_call0_call0_call0_v22 main_call0_call0_call0_v24 main_call0_call0_call0_v25 ori,
    binary main_call0_call0_call0_v20 main_call0_call0_call0_v25 main_call0_call0_call0_v26 xori,
    binary main_call0_call0_call0_v20 main_call0_call0_call0_v26 main_call0_call0_call0_v27 addi,
    nullary main_call0_call0_call0_c_6 (constantI S_ 32 6#32),
    unary main_call0_call0_call0_c_6 main_call0_call0_call0_v28 (broadcastInDim S2684354 ![] bcast_S_S2684354),
    binary main_call0_call0_call0_v26 main_call0_call0_call0_v28 main_call0_call0_call0_v29 Host.shli,
    nullary main_call0_call0_call0_c_7 (constantI S_ 32 26#32),
    unary main_call0_call0_call0_c_7 main_call0_call0_call0_v30 (broadcastInDim S2684354 ![] bcast_S_S2684354),
    binary main_call0_call0_call0_v26 main_call0_call0_call0_v30 main_call0_call0_call0_v31 Host.shrui,
    binary main_call0_call0_call0_v29 main_call0_call0_call0_v31 main_call0_call0_call0_v32 ori,
    binary main_call0_call0_call0_v27 main_call0_call0_call0_v32 main_call0_call0_call0_v33 xori,
    unary main_call0_call0_v7 main_call0_call0_call0_v34 (broadcastInDim S2684354 ![] bcast_S_S2684354),
    binary main_call0_call0_call0_v27 main_call0_call0_call0_v34 main_call0_call0_call0_v35 addi,
    unary main_call0_call0_call0_v1 main_call0_call0_call0_v36 (broadcastInDim S2684354 ![] bcast_S_S2684354),
    binary main_call0_call0_call0_v33 main_call0_call0_call0_v36 main_call0_call0_call0_v37 addi,
    nullary main_call0_call0_call0_c_8 (constantI S_ 32 1#32),
    unary main_call0_call0_call0_c_8 main_call0_call0_call0_v38 (broadcastInDim S2684354 ![] bcast_S_S2684354),
    binary main_call0_call0_call0_v37 main_call0_call0_call0_v38 main_call0_call0_call0_v39 addi ]

/-- Statements 81 to 123 of the reference: the second group of four rounds, then its key words. -/
def opsGrp1 : List (HloOp τ sig (Elt F)) :=
  [ binary main_call0_call0_call0_v35 main_call0_call0_call0_v39 main_call0_call0_call0_v40 addi,
    nullary main_call0_call0_call0_c_9 (constantI S_ 32 17#32),
    unary main_call0_call0_call0_c_9 main_call0_call0_call0_v41 (broadcastInDim S2684354 ![] bcast_S_S2684354),
    binary main_call0_call0_call0_v39 main_call0_call0_call0_v41 main_call0_call0_call0_v42 Host.shli,
    nullary main_call0_call0_call0_c_10 (constantI S_ 32 15#32),
    unary main_call0_call0_call0_c_10 main_call0_call0_call0_v43 (broadcastInDim S2684354 ![] bcast_S_S2684354),
    binary main_call0_call0_call0_v39 main_call0_call0_call0_v43 main_call0_call0_call0_v44 Host.shrui,
    binary main_call0_call0_call0_v42 main_call0_call0_call0_v44 main_call0_call0_call0_v45 ori,
    binary main_call0_call0_call0_v40 main_call0_call0_call0_v45 main_call0_call0_call0_v46 xori,
    binary main_call0_call0_call0_v40 main_call0_call0_call0_v46 main_call0_call0_call0_v47 addi,
    nullary main_call0_call0_call0_c_11 (constantI S_ 32 29#32),
    unary main_call0_call0_call0_c_11 main_call0_call0_call0_v48 (broadcastInDim S2684354 ![] bcast_S_S2684354),
    binary main_call0_call0_call0_v46 main_call0_call0_call0_v48 main_call0_call0_call0_v49 Host.shli,
    nullary main_call0_call0_call0_c_12 (constantI S_ 32 3#32),
    unary main_call0_call0_call0_c_12 main_call0_call0_call0_v50 (broadcastInDim S2684354 ![] bcast_S_S2684354),
    binary main_call0_call0_call0_v46 main_call0_call0_call0_v50 main_call0_call0_call0_v51 Host.shrui,
    binary main_call0_call0_call0_v49 main_call0_call0_call0_v51 main_call0_call0_call0_v52 ori,
    binary main_call0_call0_call0_v47 main_call0_call0_call0_v52 main_call0_call0_call0_v53 xori,
    binary main_call0_call0_call0_v47 main_call0_call0_call0_v53 main_call0_call0_call0_v54 addi,
    nullary main_call0_call0_call0_c_13 (constantI S_ 32 16#32),
    unary main_call0_call0_call0_c_13 main_call0_call0_call0_v55 (broadcastInDim S2684354 ![] bcast_S_S2684354),
    binary main_call0_call0_call0_v53 main_call0_call0_call0_v55 main_call0_call0_call0_v56 Host.shli,
    nullary main_call0_call0_call0_c_14 (constantI S_ 32 16#32),
    unary main_call0_call0_call0_c_14 main_call0_call0_call0_v57 (broadcastInDim S2684354 ![] bcast_S_S2684354),
    binary main_call0_call0_call0_v53 main_call0_call0_call0_v57 main_call0_call0_call0_v58 Host.shrui,
    binary main_call0_call0_call0_v56 main_call0_call0_call0_v58 main_call0_call0_call0_v59 ori,
    binary main_call0_call0_call0_v54 main_call0_call0_call0_v59 main_call0_call0_call0_v60 xori,
    binary main_call0_call0_call0_v54 main_call0_call0_call0_v60 main_call0_call0_call0_v61 addi,
    nullary main_call0_call0_call0_c_15 (constantI S_ 32 24#32),
    unary main_call0_call0_call0_c_15 main_call0_call0_call0_v62 (broadcastInDim S2684354 ![] bcast_S_S2684354),
    binary main_call0_call0_call0_v60 main_call0_call0_call0_v62 main_call0_call0_call0_v63 Host.shli,
    nullary main_call0_call0_call0_c_16 (constantI S_ 32 8#32),
    unary main_call0_call0_call0_c_16 main_call0_call0_call0_v64 (broadcastInDim S2684354 ![] bcast_S_S2684354),
    binary main_call0_call0_call0_v60 main_call0_call0_call0_v64 main_call0_call0_call0_v65 Host.shrui,
    binary main_call0_call0_call0_v63 main_call0_call0_call0_v65 main_call0_call0_call0_v66 ori,
    binary main_call0_call0_call0_v61 main_call0_call0_call0_v66 main_call0_call0_call0_v67 xori,
    unary main_call0_call0_call0_v1 main_call0_call0_call0_v68 (broadcastInDim S2684354 ![] bcast_S_S2684354),
    binary main_call0_call0_call0_v61 main_call0_call0_call0_v68 main_call0_call0_call0_v69 addi,
    unary main_call0_call0_v5 main_call0_call0_call0_v70 (broadcastInDim S2684354 ![] bcast_S_S2684354),
    binary main_call0_call0_call0_v67 main_call0_call0_call0_v70 main_call0_call0_call0_v71 addi,
    nullary main_call0_call0_call0_c_17 (constantI S_ 32 2#32),
    unary main_call0_call0_call0_c_17 main_call0_call0_call0_v72 (broadcastInDim S2684354 ![] bcast_S_S2684354),
    binary main_call0_call0_call0_v71 main_call0_call0_call0_v72 main_call0_call0_call0_v73 addi ]

/-- Statements 124 to 166 of the reference: the third group of four rounds, then its key words. -/
def opsGrp2 : List (HloOp τ sig (Elt F)) :=
  [ binary main_call0_call0_call0_v69 main_call0_call0_call0_v73 main_call0_call0_call0_v74 addi,
    nullary main_call0_call0_call0_c_18 (constantI S_ 32 13#32),
    unary main_call0_call0_call0_c_18 main_call0_call0_call0_v75 (broadcastInDim S2684354 ![] bcast_S_S2684354),
    binary main_call0_call0_call0_v73 main_call0_call0_call0_v75 main_call0_call0_call0_v76 Host.shli,
    nullary main_call0_call0_call0_c_19 (constantI S_ 32 19#32),
    unary main_call0_call0_call0_c_19 main_call0_call0_call0_v77 (broadcastInDim S2684354 ![] bcast_S_S2684354),
    binary main_call0_call0_call0_v73 main_call0_call0_call0_v77 main_call0_call0_call0_v78 Host.shrui,
    binary main_call0_call0_call0_v76 main_call0_call0_call0_v78 main_call0_call0_call0_v79 ori,
    binary main_call0_call0_call0_v74 main_call0_call0_call0_v79 main_call0_call0_call0_v80 xori,
    binary main_call0_call0_call0_v74 main_call0_call0_call0_v80 main_call0_call0_call0_v81 addi,
    nullary main_call0_call0_call0_c_20 (constantI S_ 32 15#32),
    unary main_call0_call0_call0_c_20 main_call0_call0_call0_v82 (broadcastInDim S2684354 ![] bcast_S_S2684354),
    binary main_call0_call0_call0_v80 main_call0_call0_call0_v82 main_call0_call0_call0_v83 Host.shli,
    nullary main_call0_call0_call0_c_21 (constantI S_ 32 17#32),
    unary main_call0_call0_call0_c_21 main_call0_call0_call0_v84 (broadcastInDim S2684354 ![] bcast_S_S2684354),
    binary main_call0_call0_call0_v80 main_call0_call0_call0_v84 main_call0_call0_call0_v85 Host.shrui,
    binary main_call0_call0_call0_v83 main_call0_call0_call0_v85 main_call0_call0_call0_v86 ori,
    binary main_call0_call0_call0_v81 main_call0_call0_call0_v86 main_call0_call0_call0_v87 xori,
    binary main_call0_call0_call0_v81 main_call0_call0_call0_v87 main_call0_call0_call0_v88 addi,
    nullary main_call0_call0_call0_c_22 (constantI S_ 32 26#32),
    unary main_call0_call0_call0_c_22 main_call0_call0_call0_v89 (broadcastInDim S2684354 ![] bcast_S_S2684354),
    binary main_call0_call0_call0_v87 main_call0_call0_call0_v89 main_call0_call0_call0_v90 Host.shli,
    nullary main_call0_call0_call0_c_23 (constantI S_ 32 6#32),
    unary main_call0_call0_call0_c_23 main_call0_call0_call0_v91 (broadcastInDim S2684354 ![] bcast_S_S2684354),
    binary main_call0_call0_call0_v87 main_call0_call0_call0_v91 main_call0_call0_call0_v92 Host.shrui,
    binary main_call0_call0_call0_v90 main_call0_call0_call0_v92 main_call0_call0_call0_v93 ori,
    binary main_call0_call0_call0_v88 main_call0_call0_call0_v93 main_call0_call0_call0_v94 xori,
    binary main_call0_call0_call0_v88 main_call0_call0_call0_v94 main_call0_call0_call0_v95 addi,
    nullary main_call0_call0_call0_c_24 (constantI S_ 32 6#32),
    unary main_call0_call0_call0_c_24 main_call0_call0_call0_v96 (broadcastInDim S2684354 ![] bcast_S_S2684354),
    binary main_call0_call0_call0_v94 main_call0_call0_call0_v96 main_call0_call0_call0_v97 Host.shli,
    nullary main_call0_call0_call0_c_25 (constantI S_ 32 26#32),
    unary main_call0_call0_call0_c_25 main_call0_call0_call0_v98 (broadcastInDim S2684354 ![] bcast_S_S2684354),
    binary main_call0_call0_call0_v94 main_call0_call0_call0_v98 main_call0_call0_call0_v99 Host.shrui,
    binary main_call0_call0_call0_v97 main_call0_call0_call0_v99 main_call0_call0_call0_v100 ori,
    binary main_call0_call0_call0_v95 main_call0_call0_call0_v100 main_call0_call0_call0_v101 xori,
    unary main_call0_call0_v5 main_call0_call0_call0_v102 (broadcastInDim S2684354 ![] bcast_S_S2684354),
    binary main_call0_call0_call0_v95 main_call0_call0_call0_v102 main_call0_call0_call0_v103 addi,
    unary main_call0_call0_v7 main_call0_call0_call0_v104 (broadcastInDim S2684354 ![] bcast_S_S2684354),
    binary main_call0_call0_call0_v101 main_call0_call0_call0_v104 main_call0_call0_call0_v105 addi,
    nullary main_call0_call0_call0_c_26 (constantI S_ 32 3#32),
    unary main_call0_call0_call0_c_26 main_call0_call0_call0_v106 (broadcastInDim S2684354 ![] bcast_S_S2684354),
    binary main_call0_call0_call0_v105 main_call0_call0_call0_v106 main_call0_call0_call0_v107 addi ]

/-- Statements 167 to 209 of the reference: the fourth group of four rounds, then its key words. -/
def opsGrp3 : List (HloOp τ sig (Elt F)) :=
  [ binary main_call0_call0_call0_v103 main_call0_call0_call0_v107 main_call0_call0_call0_v108 addi,
    nullary main_call0_call0_call0_c_27 (constantI S_ 32 17#32),
    unary main_call0_call0_call0_c_27 main_call0_call0_call0_v109 (broadcastInDim S2684354 ![] bcast_S_S2684354),
    binary main_call0_call0_call0_v107 main_call0_call0_call0_v109 main_call0_call0_call0_v110 Host.shli,
    nullary main_call0_call0_call0_c_28 (constantI S_ 32 15#32),
    unary main_call0_call0_call0_c_28 main_call0_call0_call0_v111 (broadcastInDim S2684354 ![] bcast_S_S2684354),
    binary main_call0_call0_call0_v107 main_call0_call0_call0_v111 main_call0_call0_call0_v112 Host.shrui,
    binary main_call0_call0_call0_v110 main_call0_call0_call0_v112 main_call0_call0_call0_v113 ori,
    binary main_call0_call0_call0_v108 main_call0_call0_call0_v113 main_call0_call0_call0_v114 xori,
    binary main_call0_call0_call0_v108 main_call0_call0_call0_v114 main_call0_call0_call0_v115 addi,
    nullary main_call0_call0_call0_c_29 (constantI S_ 32 29#32),
    unary main_call0_call0_call0_c_29 main_call0_call0_call0_v116 (broadcastInDim S2684354 ![] bcast_S_S2684354),
    binary main_call0_call0_call0_v114 main_call0_call0_call0_v116 main_call0_call0_call0_v117 Host.shli,
    nullary main_call0_call0_call0_c_30 (constantI S_ 32 3#32),
    unary main_call0_call0_call0_c_30 main_call0_call0_call0_v118 (broadcastInDim S2684354 ![] bcast_S_S2684354),
    binary main_call0_call0_call0_v114 main_call0_call0_call0_v118 main_call0_call0_call0_v119 Host.shrui,
    binary main_call0_call0_call0_v117 main_call0_call0_call0_v119 main_call0_call0_call0_v120 ori,
    binary main_call0_call0_call0_v115 main_call0_call0_call0_v120 main_call0_call0_call0_v121 xori,
    binary main_call0_call0_call0_v115 main_call0_call0_call0_v121 main_call0_call0_call0_v122 addi,
    nullary main_call0_call0_call0_c_31 (constantI S_ 32 16#32),
    unary main_call0_call0_call0_c_31 main_call0_call0_call0_v123 (broadcastInDim S2684354 ![] bcast_S_S2684354),
    binary main_call0_call0_call0_v121 main_call0_call0_call0_v123 main_call0_call0_call0_v124 Host.shli,
    nullary main_call0_call0_call0_c_32 (constantI S_ 32 16#32),
    unary main_call0_call0_call0_c_32 main_call0_call0_call0_v125 (broadcastInDim S2684354 ![] bcast_S_S2684354),
    binary main_call0_call0_call0_v121 main_call0_call0_call0_v125 main_call0_call0_call0_v126 Host.shrui,
    binary main_call0_call0_call0_v124 main_call0_call0_call0_v126 main_call0_call0_call0_v127 ori,
    binary main_call0_call0_call0_v122 main_call0_call0_call0_v127 main_call0_call0_call0_v128 xori,
    binary main_call0_call0_call0_v122 main_call0_call0_call0_v128 main_call0_call0_call0_v129 addi,
    nullary main_call0_call0_call0_c_33 (constantI S_ 32 24#32),
    unary main_call0_call0_call0_c_33 main_call0_call0_call0_v130 (broadcastInDim S2684354 ![] bcast_S_S2684354),
    binary main_call0_call0_call0_v128 main_call0_call0_call0_v130 main_call0_call0_call0_v131 Host.shli,
    nullary main_call0_call0_call0_c_34 (constantI S_ 32 8#32),
    unary main_call0_call0_call0_c_34 main_call0_call0_call0_v132 (broadcastInDim S2684354 ![] bcast_S_S2684354),
    binary main_call0_call0_call0_v128 main_call0_call0_call0_v132 main_call0_call0_call0_v133 Host.shrui,
    binary main_call0_call0_call0_v131 main_call0_call0_call0_v133 main_call0_call0_call0_v134 ori,
    binary main_call0_call0_call0_v129 main_call0_call0_call0_v134 main_call0_call0_call0_v135 xori,
    unary main_call0_call0_v7 main_call0_call0_call0_v136 (broadcastInDim S2684354 ![] bcast_S_S2684354),
    binary main_call0_call0_call0_v129 main_call0_call0_call0_v136 main_call0_call0_call0_v137 addi,
    unary main_call0_call0_call0_v1 main_call0_call0_call0_v138 (broadcastInDim S2684354 ![] bcast_S_S2684354),
    binary main_call0_call0_call0_v135 main_call0_call0_call0_v138 main_call0_call0_call0_v139 addi,
    nullary main_call0_call0_call0_c_35 (constantI S_ 32 4#32),
    unary main_call0_call0_call0_c_35 main_call0_call0_call0_v140 (broadcastInDim S2684354 ![] bcast_S_S2684354),
    binary main_call0_call0_call0_v139 main_call0_call0_call0_v140 main_call0_call0_call0_v141 addi ]

/-- Statements 210 to 252 of the reference: the fifth group of four rounds, then its key words. -/
def opsGrp4 : List (HloOp τ sig (Elt F)) :=
  [ binary main_call0_call0_call0_v137 main_call0_call0_call0_v141 main_call0_call0_call0_v142 addi,
    nullary main_call0_call0_call0_c_36 (constantI S_ 32 13#32),
    unary main_call0_call0_call0_c_36 main_call0_call0_call0_v143 (broadcastInDim S2684354 ![] bcast_S_S2684354),
    binary main_call0_call0_call0_v141 main_call0_call0_call0_v143 main_call0_call0_call0_v144 Host.shli,
    nullary main_call0_call0_call0_c_37 (constantI S_ 32 19#32),
    unary main_call0_call0_call0_c_37 main_call0_call0_call0_v145 (broadcastInDim S2684354 ![] bcast_S_S2684354),
    binary main_call0_call0_call0_v141 main_call0_call0_call0_v145 main_call0_call0_call0_v146 Host.shrui,
    binary main_call0_call0_call0_v144 main_call0_call0_call0_v146 main_call0_call0_call0_v147 ori,
    binary main_call0_call0_call0_v142 main_call0_call0_call0_v147 main_call0_call0_call0_v148 xori,
    binary main_call0_call0_call0_v142 main_call0_call0_call0_v148 main_call0_call0_call0_v149 addi,
    nullary main_call0_call0_call0_c_38 (constantI S_ 32 15#32),
    unary main_call0_call0_call0_c_38 main_call0_call0_call0_v150 (broadcastInDim S2684354 ![] bcast_S_S2684354),
    binary main_call0_call0_call0_v148 main_call0_call0_call0_v150 main_call0_call0_call0_v151 Host.shli,
    nullary main_call0_call0_call0_c_39 (constantI S_ 32 17#32),
    unary main_call0_call0_call0_c_39 main_call0_call0_call0_v152 (broadcastInDim S2684354 ![] bcast_S_S2684354),
    binary main_call0_call0_call0_v148 main_call0_call0_call0_v152 main_call0_call0_call0_v153 Host.shrui,
    binary main_call0_call0_call0_v151 main_call0_call0_call0_v153 main_call0_call0_call0_v154 ori,
    binary main_call0_call0_call0_v149 main_call0_call0_call0_v154 main_call0_call0_call0_v155 xori,
    binary main_call0_call0_call0_v149 main_call0_call0_call0_v155 main_call0_call0_call0_v156 addi,
    nullary main_call0_call0_call0_c_40 (constantI S_ 32 26#32),
    unary main_call0_call0_call0_c_40 main_call0_call0_call0_v157 (broadcastInDim S2684354 ![] bcast_S_S2684354),
    binary main_call0_call0_call0_v155 main_call0_call0_call0_v157 main_call0_call0_call0_v158 Host.shli,
    nullary main_call0_call0_call0_c_41 (constantI S_ 32 6#32),
    unary main_call0_call0_call0_c_41 main_call0_call0_call0_v159 (broadcastInDim S2684354 ![] bcast_S_S2684354),
    binary main_call0_call0_call0_v155 main_call0_call0_call0_v159 main_call0_call0_call0_v160 Host.shrui,
    binary main_call0_call0_call0_v158 main_call0_call0_call0_v160 main_call0_call0_call0_v161 ori,
    binary main_call0_call0_call0_v156 main_call0_call0_call0_v161 main_call0_call0_call0_v162 xori,
    binary main_call0_call0_call0_v156 main_call0_call0_call0_v162 main_call0_call0_call0_v163 addi,
    nullary main_call0_call0_call0_c_42 (constantI S_ 32 6#32),
    unary main_call0_call0_call0_c_42 main_call0_call0_call0_v164 (broadcastInDim S2684354 ![] bcast_S_S2684354),
    binary main_call0_call0_call0_v162 main_call0_call0_call0_v164 main_call0_call0_call0_v165 Host.shli,
    nullary main_call0_call0_call0_c_43 (constantI S_ 32 26#32),
    unary main_call0_call0_call0_c_43 main_call0_call0_call0_v166 (broadcastInDim S2684354 ![] bcast_S_S2684354),
    binary main_call0_call0_call0_v162 main_call0_call0_call0_v166 main_call0_call0_call0_v167 Host.shrui,
    binary main_call0_call0_call0_v165 main_call0_call0_call0_v167 main_call0_call0_call0_v168 ori,
    binary main_call0_call0_call0_v163 main_call0_call0_call0_v168 main_call0_call0_call0_v169 xori,
    unary main_call0_call0_call0_v1 main_call0_call0_call0_v170 (broadcastInDim S2684354 ![] bcast_S_S2684354),
    binary main_call0_call0_call0_v163 main_call0_call0_call0_v170 main_call0_call0_v15_0 addi,
    unary main_call0_call0_v5 main_call0_call0_call0_v172 (broadcastInDim S2684354 ![] bcast_S_S2684354),
    binary main_call0_call0_call0_v169 main_call0_call0_call0_v172 main_call0_call0_call0_v173 addi,
    nullary main_call0_call0_call0_c_44 (constantI S_ 32 5#32),
    unary main_call0_call0_call0_c_44 main_call0_call0_call0_v174 (broadcastInDim S2684354 ![] bcast_S_S2684354),
    binary main_call0_call0_call0_v173 main_call0_call0_call0_v174 main_call0_call0_v15_1 addi ]

/-- Statements 253 to 278 of the reference: the uniform numbers out of the words, the mask, and the selection. -/
def opsEnd : List (HloOp τ sig (Elt F)) :=
  [ binary main_call0_call0_v15_0 main_call0_call0_v15_1 main_call0_call0_v16 xori,
    nullary main_call0_call0_c_1 (constantI S_ 32 9#32),
    unary main_call0_call0_c_1 main_call0_call0_v17 (broadcastInDim S2684354 ![] bcast_S_S2684354),
    binary main_call0_call0_v16 main_call0_call0_v17 main_call0_call0_v18 Host.shrui,
    nullary main_call0_call0_c_2 (constantI S_ 32 1065353216#32),
    unary main_call0_call0_c_2 main_call0_call0_v19 (broadcastInDim S2684354 ![] bcast_S_S2684354),
    binary main_call0_call0_v18 main_call0_call0_v19 main_call0_call0_v20 ori,
    unary main_call0_call0_v20 main_call0_call0_v21 (bitcastToFloat .f32),
    nullary main_call0_call0_cst (constant S_ .f32 0x3F800000#32),
    unary main_call0_call0_cst main_call0_call0_v22 (broadcastInDim S2684354 ![] bcast_S_S2684354),
    binary main_call0_call0_v21 main_call0_call0_v22 main_call0_call0_v23 subf,
    binary main_call0_call0_v3 main_call0_call0_v2 main_call0_call0_v24 subf,
    unary main_call0_call0_v24 main_call0_call0_v25 (broadcastInDim S2684354 ![0] bcast_S1_S2684354_0),
    binary main_call0_call0_v23 main_call0_call0_v25 main_call0_call0_v26 mulf,
    unary main_call0_call0_v2 main_call0_call0_v27 (broadcastInDim S2684354 ![0] bcast_S1_S2684354_0),
    binary main_call0_call0_v26 main_call0_call0_v27 main_call0_call0_v28 addf,
    unary main_call0_call0_v2 main_call0_call0_v29 (broadcastInDim S2684354 ![0] bcast_S1_S2684354_0),
    binary main_call0_call0_v29 main_call0_call0_v28 main_call0_v0 maximumf,
    unary main_cst main_call0_v1 (broadcastInDim S2684354 ![] bcast_S_S2684354),
    binary main_call0_v0 main_call0_v1 main_v7 (cmpf .olt),
    nullary main_cst_2 (constant S_ .f32 0x3F000000#32),
    unary main_cst_2 main_v8 (broadcastInDim S2684354 ![] bcast_S_S2684354),
    binary main_arg1 main_v8 main_v9 Host.divf,
    nullary main_cst_3 (constant S_ .f32 0x00000000#32),
    unary main_cst_3 main_v10 (broadcastInDim S2684354 ![] bcast_S_S2684354),
    ternary main_v7 main_v9 main_v10 main_v11 select ]

/-- The reference's statements, in order. -/
def ops : List (HloOp τ sig (Elt F)) :=
  opsKey ++ (opsIni ++ (opsGrp0 ++ (opsGrp1 ++ (opsGrp2 ++ (opsGrp3 ++ (opsGrp4 ++ opsEnd))))))

/-! ## The reference is these statements -/

set_option maxRecDepth 100000 in
set_option maxHeartbeats 4000000 in
/-- The reference runs these statements, one after the other. -/
theorem main_ops (c : Dev nD) : main (F := F) c = seq ops := by
  rfl

/-! ## Where the statements read and write -/

/-- Every buffer of a statement is one of the device's. -/
theorem ops_sub : (ops : List (HloOp τ sig (Elt F))).Forall fun op => op.bufs ⊆ tcRefs τ sig := by
  simp only [ops, List.forall_append]
  refine ⟨?_, ?_, ?_, ?_, ?_, ?_, ?_, ?_⟩ <;>
    simp only [opsKey, opsIni, opsGrp0, opsGrp1, opsGrp2, opsGrp3, opsGrp4, opsEnd, List.Forall, nullary_bufs_sub,
      unary_bufs_sub, binary_bufs_sub, ternary_bufs_sub, reshape_bufs_sub, and_self]

/-- No statement makes a buffer of its own. -/
theorem ops_fresh : ∀ op ∈ (ops : List (HloOp τ sig (Elt F))), op.fresh = ∅ := by
  refine List.forall_iff_forall_mem.mp ?_
  simp only [ops, List.forall_append]
  refine ⟨?_, ?_, ?_, ?_, ?_, ?_, ?_, ?_⟩ <;> (repeat' first | rfl | apply And.intro)

/-- No buffer and no counter belongs to a part of the program only. -/
theorem scopedRefs_none : (Finset.univ.filter fun b : Ref sig .tc => b.isScoped) = ∅ := by decide
theorem scopedSems_none : (Finset.univ.filter fun sm : SemLoc sig => sm.isScoped .tc) = ∅ := by decide

/-- The reference runs to its end from any memory, and leaves what its statements leave. -/
theorem run_ref (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_hlo defs main main_ops scopedRefs_none scopedSems_none ops_sub ops_fresh m ρ

end Cert.Dropout.Ref

end
-- ==== Proof.RefGrp.lean ====
module

public import proofs.«01_k».proof.Proof.Ref
public import Idealize.ShloMosaic.Lib.Pipeline.ValueKit

@[expose] public section

noncomputable section

namespace Cert.Dropout.Ref

open Cert.ReferenceIdeal Cert.ReferenceIdeal.Gen

open Idealize.ShloMosaic Idealize.ShloMosaic.TcCoe Idealize.ShloMosaic.StableHlo Idealize.SL.Sem

variable {F : FTy → Type} [FloatOps F]

/-! ## The reference's steps on whole arrays of words -/

/-- An array of words. -/
abbrev HVec : Type := IVec S2684354 32

/-- A word at every index. -/
def hbc (k : IVec S_ 32) : HVec := broadcastInDim S2684354 ![] bcast_S_S2684354 k

/-- A literal word at every index. -/
def hlit (a : BitVec 32) : HVec := hbc (constantI S_ 32 a)

/-- One round: the sum, and the second word turned by `a` to the left (`b` is `32 - a`) and mixed with the sum. -/
def hrnd (a b : BitVec 32) (p : HVec × HVec) : HVec × HVec :=
  (addi p.1 p.2, xori (addi p.1 p.2) (ori (Host.shli p.2 (hlit a)) (Host.shrui p.2 (hlit b))))

/-- The key words put in: `k` on the first word, `l` and the number `c` of the group on the second. -/
def hinj (k l : IVec S_ 32) (c : BitVec 32) (p : HVec × HVec) : HVec × HVec :=
  (addi p.1 (hbc k), addi (addi p.2 (hbc l)) (hlit c))

/-- Four rounds of the first kind. -/
def hgrpA (p : HVec × HVec) : HVec × HVec :=
  hrnd 6#32 26#32 (hrnd 26#32 6#32 (hrnd 15#32 17#32 (hrnd 13#32 19#32 p)))

/-- Four rounds of the second kind. -/
def hgrpB (p : HVec × HVec) : HVec × HVec :=
  hrnd 24#32 8#32 (hrnd 16#32 16#32 (hrnd 29#32 3#32 (hrnd 17#32 15#32 p)))

/-! ## The buffers a stretch leaves alone -/

/-- The contents `W` are those of `V` at the buffers listed. -/
def Keeps (rs : List (Ref sig .tc)) (V W : Valuation τ sig (Elt F)) : Prop :=
  ∀ r ∈ rs, W (Proc.devRef .tc r) = V (Proc.devRef .tc r)

/-- What two stretches leave alone, both together do. -/
theorem Keeps.trans {rs : List (Ref sig .tc)} {U V W : Valuation τ sig (Elt F)} (h : Keeps rs U V) (h' : Keeps rs V W) :
    Keeps rs U W := fun r hr => (h' r hr).trans (h r hr)

/-- A stretch whose statements write the buffers `ws` leaves the others alone. -/
theorem keeps_of_writes {rs : List (Ref sig .tc)} {l : List (HloOp τ sig (Elt F))} (ws : List (Ref sig .tc))
    (hw : l.map HloOp.writes = ws.map fun w => {Proc.devRef (τ := τ) .tc w}) (hr : ∀ r ∈ rs, r ∉ ws)
    (V : Valuation τ sig (Elt F)) : Keeps rs V (after l V) :=
  fun r h => after_of_writes_sub l V (forall_writes_sub_of_map hw) (hr r h)

/-- The arguments, the probability, the range of the uniform numbers and the two words of the key. -/
def fixed : List (Ref sig .tc) :=
  [main_arg0, main_arg1, main_cst, main_call0_call0_v2, main_call0_call0_v3, main_call0_call0_v5, main_call0_call0_v7]

/-- The same and the key's third word. -/
def fixedGrp : List (Ref sig .tc) := main_call0_call0_call0_v1 :: fixed

/-! ## What the stretch before the groups leaves -/

theorem ini_keeps (V : Valuation τ sig (Elt F)) : Keeps fixed V (after opsIni V) :=
  keeps_of_writes [main_call0_call0_call0_v0, main_call0_call0_call0_c, main_call0_call0_call0_v1,
      main_call0_call0_call0_v2, main_call0_call0_call0_v3, main_call0_call0_call0_v4,
      main_call0_call0_call0_v5] rfl (by decide) V

/-- The key's third word. -/
theorem ini_v1 (V : Valuation τ sig (Elt F)) : after opsIni V (main_call0_call0_call0_v1 : DevRef τ sig)
    = xori (xori (V (main_call0_call0_v5 : DevRef τ sig)) (V (main_call0_call0_v7 : DevRef τ sig)))
        (constantI S_ 32 466688986#32) := by
  unfold opsIni
  after_results_simp

/-- The words the rounds start from. -/
theorem ini_words (V : Valuation τ sig (Elt F)) :
    (after opsIni V (main_call0_call0_call0_v3 : DevRef τ sig), after opsIni V (main_call0_call0_call0_v5 : DevRef τ sig))
      = ((addi (V (main_call0_call0_v14 : DevRef τ sig)) (hbc (V (main_call0_call0_v5 : DevRef τ sig))),
          addi (V (main_call0_call0_v13 : DevRef τ sig)) (hbc (V (main_call0_call0_v7 : DevRef τ sig)))) : HVec × HVec) := by
  unfold opsIni
  after_results_simp
  rfl

/-! ## What each group leaves -/

theorem grp0_keeps (V : Valuation τ sig (Elt F)) : Keeps fixedGrp V (after opsGrp0 V) :=
  keeps_of_writes [main_call0_call0_call0_v6, main_call0_call0_call0_c_0, main_call0_call0_call0_v7,
      main_call0_call0_call0_v8, main_call0_call0_call0_c_1, main_call0_call0_call0_v9,
      main_call0_call0_call0_v10, main_call0_call0_call0_v11, main_call0_call0_call0_v12,
      main_call0_call0_call0_v13, main_call0_call0_call0_c_2, main_call0_call0_call0_v14,
      main_call0_call0_call0_v15, main_call0_call0_call0_c_3, main_call0_call0_call0_v16,
      main_call0_call0_call0_v17, main_call0_call0_call0_v18, main_call0_call0_call0_v19,
      main_call0_call0_call0_v20, main_call0_call0_call0_c_4, main_call0_call0_call0_v21,
      main_call0_call0_call0_v22, main_call0_call0_call0_c_5, main_call0_call0_call0_v23,
      main_call0_call0_call0_v24, main_call0_call0_call0_v25, main_call0_call0_call0_v26,
      main_call0_call0_call0_v27, main_call0_call0_call0_c_6, main_call0_call0_call0_v28,
      main_call0_call0_call0_v29, main_call0_call0_call0_c_7, main_call0_call0_call0_v30,
      main_call0_call0_call0_v31, main_call0_call0_call0_v32, main_call0_call0_call0_v33,
      main_call0_call0_call0_v34, main_call0_call0_call0_v35, main_call0_call0_call0_v36,
      main_call0_call0_call0_v37, main_call0_call0_call0_c_8, main_call0_call0_call0_v38,
      main_call0_call0_call0_v39] rfl (by decide) V

/-- The first group: four rounds, and the key words put in. -/
theorem grp0_words (V : Valuation τ sig (Elt F)) :
    (after opsGrp0 V (main_call0_call0_call0_v35 : DevRef τ sig), after opsGrp0 V (main_call0_call0_call0_v39 : DevRef τ sig))
      = (hinj (V (main_call0_call0_v7 : DevRef τ sig)) (V (main_call0_call0_call0_v1 : DevRef τ sig)) 1#32
          (hgrpA (V (main_call0_call0_call0_v3 : DevRef τ sig), V (main_call0_call0_call0_v5 : DevRef τ sig))) : HVec × HVec) := by
  unfold opsGrp0
  after_results_simp
  rfl

/-- The second group leaves the fixed buffers alone. -/
theorem grp1_keeps (V : Valuation τ sig (Elt F)) : Keeps fixedGrp V (after opsGrp1 V) :=
  keeps_of_writes [main_call0_call0_call0_v40, main_call0_call0_call0_c_9, main_call0_call0_call0_v41,
      main_call0_call0_call0_v42, main_call0_call0_call0_c_10, main_call0_call0_call0_v43,
      main_call0_call0_call0_v44, main_call0_call0_call0_v45, main_call0_call0_call0_v46,
      main_call0_call0_call0_v47, main_call0_call0_call0_c_11, main_call0_call0_call0_v48,
      main_call0_call0_call0_v49, main_call0_call0_call0_c_12, main_call0_call0_call0_v50,
      main_call0_call0_call0_v51, main_call0_call0_call0_v52, main_call0_call0_call0_v53,
      main_call0_call0_call0_v54, main_call0_call0_call0_c_13, main_call0_call0_call0_v55,
      main_call0_call0_call0_v56, main_call0_call0_call0_c_14, main_call0_call0_call0_v57,
      main_call0_call0_call0_v58, main_call0_call0_call0_v59, main_call0_call0_call0_v60,
      main_call0_call0_call0_v61, main_call0_call0_call0_c_15, main_call0_call0_call0_v62,
      main_call0_call0_call0_v63, main_call0_call0_call0_c_16, main_call0_call0_call0_v64,
      main_call0_call0_call0_v65, main_call0_call0_call0_v66, main_call0_call0_call0_v67,
      main_call0_call0_call0_v68, main_call0_call0_call0_v69, main_call0_call0_call0_v70,
      main_call0_call0_call0_v71, main_call0_call0_call0_c_17, main_call0_call0_call0_v72,
      main_call0_call0_call0_v73] rfl (by decide) V

/-- The second group: four rounds, and the key words put in. -/
theorem grp1_words (V : Valuation τ sig (Elt F)) :
    (after opsGrp1 V (main_call0_call0_call0_v69 : DevRef τ sig), after opsGrp1 V (main_call0_call0_call0_v73 : DevRef τ sig))
      = (hinj (V (main_call0_call0_call0_v1 : DevRef τ sig)) (V (main_call0_call0_v5 : DevRef τ sig)) 2#32
          (hgrpB (V (main_call0_call0_call0_v35 : DevRef τ sig), V (main_call0_call0_call0_v39 : DevRef τ sig))) : HVec × HVec) := by
  unfold opsGrp1
  after_results_simp
  rfl

/-- The third group leaves the fixed buffers alone. -/
theorem grp2_keeps (V : Valuation τ sig (Elt F)) : Keeps fixedGrp V (after opsGrp2 V) :=
  keeps_of_writes [main_call0_call0_call0_v74, main_call0_call0_call0_c_18, main_call0_call0_call0_v75,
      main_call0_call0_call0_v76, main_call0_call0_call0_c_19, main_call0_call0_call0_v77,
      main_call0_call0_call0_v78, main_call0_call0_call0_v79, main_call0_call0_call0_v80,
      main_call0_call0_call0_v81, main_call0_call0_call0_c_20, main_call0_call0_call0_v82,
      main_call0_call0_call0_v83, main_call0_call0_call0_c_21, main_call0_call0_call0_v84,
      main_call0_call0_call0_v85, main_call0_call0_call0_v86, main_call0_call0_call0_v87,
      main_call0_call0_call0_v88, main_call0_call0_call0_c_22, main_call0_call0_call0_v89,
      main_call0_call0_call0_v90, main_call0_call0_call0_c_23, main_call0_call0_call0_v91,
      main_call0_call0_call0_v92, main_call0_call0_call0_v93, main_call0_call0_call0_v94,
      main_call0_call0_call0_v95, main_call0_call0_call0_c_24, main_call0_call0_call0_v96,
      main_call0_call0_call0_v97, main_call0_call0_call0_c_25, main_call0_call0_call0_v98,
      main_call0_call0_call0_v99, main_call0_call0_call0_v100, main_call0_call0_call0_v101,
      main_call0_call0_call0_v102, main_call0_call0_call0_v103, main_call0_call0_call0_v104,
      main_call0_call0_call0_v105, main_call0_call0_call0_c_26, main_call0_call0_call0_v106,
      main_call0_call0_call0_v107] rfl (by decide) V

/-- The third group: four rounds, and the key words put in. -/
theorem grp2_words (V : Valuation τ sig (Elt F)) :
    (after opsGrp2 V (main_call0_call0_call0_v103 : DevRef τ sig), after opsGrp2 V (main_call0_call0_call0_v107 : DevRef τ sig))
      = (hinj (V (main_call0_call0_v5 : DevRef τ sig)) (V (main_call0_call0_v7 : DevRef τ sig)) 3#32
          (hgrpA (V (main_call0_call0_call0_v69 : DevRef τ sig), V (main_call0_call0_call0_v73 : DevRef τ sig))) : HVec × HVec) := by
  unfold opsGrp2
  after_results_simp
  rfl

/-- The fourth group leaves the fixed buffers alone. -/
theorem grp3_keeps (V : Valuation τ sig (Elt F)) : Keeps fixedGrp V (after opsGrp3 V) :=
  keeps_of_writes [main_call0_call0_call0_v108, main_call0_call0_call0_c_27, main_call0_call0_call0_v109,
      main_call0_call0_call0_v110, main_call0_call0_call0_c_28, main_call0_call0_call0_v111,
      main_call0_call0_call0_v112, main_call0_call0_call0_v113, main_call0_call0_call0_v114,
      main_call0_call0_call0_v115, main_call0_call0_call0_c_29, main_call0_call0_call0_v116,
      main_call0_call0_call0_v117, main_call0_call0_call0_c_30, main_call0_call0_call0_v118,
      main_call0_call0_call0_v119, main_call0_call0_call0_v120, main_call0_call0_call0_v121,
      main_call0_call0_call0_v122, main_call0_call0_call0_c_31, main_call0_call0_call0_v123,
      main_call0_call0_call0_v124, main_call0_call0_call0_c_32, main_call0_call0_call0_v125,
      main_call0_call0_call0_v126, main_call0_call0_call0_v127, main_call0_call0_call0_v128,
      main_call0_call0_call0_v129, main_call0_call0_call0_c_33, main_call0_call0_call0_v130,
      main_call0_call0_call0_v131, main_call0_call0_call0_c_34, main_call0_call0_call0_v132,
      main_call0_call0_call0_v133, main_call0_call0_call0_v134, main_call0_call0_call0_v135,
      main_call0_call0_call0_v136, main_call0_call0_call0_v137, main_call0_call0_call0_v138,
      main_call0_call0_call0_v139, main_call0_call0_call0_c_35, main_call0_call0_call0_v140,
      main_call0_call0_call0_v141] rfl (by decide) V

/-- The fourth group: four rounds, and the key words put in. -/
theorem grp3_words (V : Valuation τ sig (Elt F)) :
    (after opsGrp3 V (main_call0_call0_call0_v137 : DevRef τ sig), after opsGrp3 V (main_call0_call0_call0_v141 : DevRef τ sig))
      = (hinj (V (main_call0_call0_v7 : DevRef τ sig)) (V (main_call0_call0_call0_v1 : DevRef τ sig)) 4#32
          (hgrpB (V (main_call0_call0_call0_v103 : DevRef τ sig), V (main_call0_call0_call0_v107 : DevRef τ sig))) : HVec × HVec) := by
  unfold opsGrp3
  after_results_simp
  rfl

/-- The fifth group leaves the fixed buffers alone. -/
theorem grp4_keeps (V : Valuation τ sig (Elt F)) : Keeps fixedGrp V (after opsGrp4 V) :=
  keeps_of_writes [main_call0_call0_call0_v142, main_call0_call0_call0_c_36, main_call0_call0_call0_v143,
      main_call0_call0_call0_v144, main_call0_call0_call0_c_37, main_call0_call0_call0_v145,
      main_call0_call0_call0_v146, main_call0_call0_call0_v147, main_call0_call0_call0_v148,
      main_call0_call0_call0_v149, main_call0_call0_call0_c_38, main_call0_call0_call0_v150,
      main_call0_call0_call0_v151, main_call0_call0_call0_c_39, main_call0_call0_call0_v152,
      main_call0_call0_call0_v153, main_call0_call0_call0_v154, main_call0_call0_call0_v155,
      main_call0_call0_call0_v156, main_call0_call0_call0_c_40, main_call0_call0_call0_v157,
      main_call0_call0_call0_v158, main_call0_call0_call0_c_41, main_call0_call0_call0_v159,
      main_call0_call0_call0_v160, main_call0_call0_call0_v161, main_call0_call0_call0_v162,
      main_call0_call0_call0_v163, main_call0_call0_call0_c_42, main_call0_call0_call0_v164,
      main_call0_call0_call0_v165, main_call0_call0_call0_c_43, main_call0_call0_call0_v166,
      main_call0_call0_call0_v167, main_call0_call0_call0_v168, main_call0_call0_call0_v169,
      main_call0_call0_call0_v170, main_call0_call0_v15_0, main_call0_call0_call0_v172,
      main_call0_call0_call0_v173, main_call0_call0_call0_c_44, main_call0_call0_call0_v174,
      main_call0_call0_v15_1] rfl (by decide) V

/-- The fifth group: four rounds, and the key words put in. -/
theorem grp4_words (V : Valuation τ sig (Elt F)) :
    (after opsGrp4 V (main_call0_call0_v15_0 : DevRef τ sig), after opsGrp4 V (main_call0_call0_v15_1 : DevRef τ sig))
      = (hinj (V (main_call0_call0_call0_v1 : DevRef τ sig)) (V (main_call0_call0_v5 : DevRef τ sig)) 5#32
          (hgrpA (V (main_call0_call0_call0_v137 : DevRef τ sig), V (main_call0_call0_call0_v141 : DevRef τ sig))) : HVec × HVec) := by
  unfold opsGrp4
  after_results_simp
  rfl

/-! ## What the first stretch leaves -/

/-- The one index of an array of one element. -/
def one : S1.Idx := fun a => match a with | 0 => (0 : Fin 1)

/-- An index into an array of two elements. -/
def two (w : Fin 2) : S2.Idx := fun a => match a with | 0 => w

/-- Arrays of one element have one position. -/
theorem one_cast (k : S1.Idx) (j : S_.Idx) : (S1.rowMajor k).val = (S_.rowMajor j).val :=
  (Fin.val_eq_zero (S1.rowMajor k : Fin 1)).trans (Fin.val_eq_zero (S_.rowMajor j : Fin 1)).symm

/-- The first of two words put side by side. -/
theorem pair_fst (a b : IVec S1 32) : (fun j => shapeCast S_ (extractStridedSlice S1 ![0]
    (concatenate S2 0 [⟨S1, a⟩, ⟨S1, b⟩] concatenates_S1_S1_S2_d0) slices_S2_S1_0) shapeCasts_S1_S_ j) = fun _ => a one := by
  funext j
  rw [shapeCast_apply _ _ j one (one_cast one j)]
  refine (extractStridedSlice_apply _ _ _ one (two 0) (fun a => ?_)).trans ?_
  · match a with | 0 => rfl
  · exact concatenate_pair_apply_left (0 : Fin S2.rank) a b _ (two 0) rfl one fun b => by match b with | 0 => rfl

/-- The second of two words put side by side. -/
theorem pair_snd (a b : IVec S1 32) : (fun j => shapeCast S_ (extractStridedSlice S1 ![1]
    (concatenate S2 0 [⟨S1, a⟩, ⟨S1, b⟩] concatenates_S1_S1_S2_d0) slices_S2_S1_1) shapeCasts_S1_S_ j) = fun _ => b one := by
  funext j
  rw [shapeCast_apply _ _ j one (one_cast one j)]
  refine (extractStridedSlice_apply _ _ _ one (two 1) (fun a => ?_)).trans ?_
  · match a with | 0 => rfl
  · exact concatenate_pair_apply_right (0 : Fin S2.rank) a b _ (two 1) rfl rfl one (fun b hb => by match b with | 0 => exact absurd rfl hb) rfl

/-- The first word of the key is zero. -/
theorem key_v5 (V : Valuation τ sig (Elt F)) :
    after opsKey V (main_call0_call0_v5 : DevRef τ sig) = constantI S_ 32 0#32 := by
  unfold opsKey
  after_results_simp
  refine (pair_fst _ _).trans ?_
  after_results_simp
  rfl

/-- The second word of the key is the seed. -/
theorem key_v7 (V : Valuation τ sig (Elt F)) :
    after opsKey V (main_call0_call0_v7 : DevRef τ sig) = constantI S_ 32 42#32 := by
  unfold opsKey
  after_results_simp
  refine (pair_snd _ _).trans ?_
  after_results_simp
  rfl

/-- The counters as the reference makes them, of 64 bits. -/
def cnt : IVec S2684354 64 :=
  muli (broadcastInDim S2684354 ![] bcast_S_S2684354 (constantI S_ 64 1#64)) (iotaInDim S2684354 64 0)

/-- The low halves of the counters. -/
theorem key_v13 (V : Valuation τ sig (Elt F)) :
    after opsKey V (main_call0_call0_v13 : DevRef τ sig) = trunci 32 cnt natLt_32_64 := by
  unfold opsKey
  after_results_simp
  rfl

/-- The high halves of the counters. -/
theorem key_v14 (V : Valuation τ sig (Elt F)) : after opsKey V (main_call0_call0_v14 : DevRef τ sig)
    = trunci 32 (Host.shrui cnt (broadcastInDim S2684354 ![] bcast_S_S2684354 (constantI S_ 64 32#64))) natLt_32_64 := by
  unfold opsKey
  after_results_simp
  rfl

/-- The uniform numbers start at zero. -/
theorem key_v2 (V : Valuation τ sig (Elt F)) : after opsKey V (main_call0_call0_v2 : DevRef τ sig)
    = (broadcastInDim S1 ![] bcast_S_S1 (constant S_ .f32 0x00000000#32) : FVec F S1 .f32) := by
  unfold opsKey
  after_results_simp
  rfl

/-- They end at one. -/
theorem key_v3 (V : Valuation τ sig (Elt F)) : after opsKey V (main_call0_call0_v3 : DevRef τ sig)
    = (broadcastInDim S1 ![] bcast_S_S1 (constant S_ .f32 0x3F800000#32) : FVec F S1 .f32) := by
  unfold opsKey
  after_results_simp
  rfl

/-- The probability is one half. -/
theorem key_cst (V : Valuation τ sig (Elt F)) :
    after opsKey V (main_cst : DevRef τ sig) = (constant S_ .f32 0x3F000000#32 : FVec F S_ .f32) := by
  unfold opsKey
  after_results_simp

/-- The first stretch leaves the arguments alone. -/
theorem key_arg0 (V : Valuation τ sig (Elt F)) :
    after opsKey V (main_arg0 : DevRef τ sig) = V (main_arg0 : DevRef τ sig) := by
  unfold opsKey
  after_results_simp

/-- The same of the second argument. -/
theorem key_arg1 (V : Valuation τ sig (Elt F)) :
    after opsKey V (main_arg1 : DevRef τ sig) = V (main_arg1 : DevRef τ sig) := by
  unfold opsKey
  after_results_simp

/-! ## What the last stretch leaves -/

/-- The uniform numbers of the words `w`, in the range from `lo` to `hi`. -/
def huni (w : HVec) (lo hi : FVec F S1 .f32) : FVec F S2684354 .f32 :=
  maximumf (broadcastInDim S2684354 ![0] bcast_S1_S2684354_0 lo)
    (addf
      (mulf
        (subf
          (bitcastToFloat .f32 (ori (Host.shrui w (hlit 9#32)) (hlit 1065353216#32)))
          (broadcastInDim S2684354 ![] bcast_S_S2684354 (constant S_ .f32 0x3F800000#32)))
        (broadcastInDim S2684354 ![0] bcast_S1_S2684354_0 (subf hi lo)))
      (broadcastInDim S2684354 ![0] bcast_S1_S2684354_0 lo))

/-- The values `x` kept where the uniform numbers `u` are below `p`. -/
def hsel (u : FVec F S2684354 .f32) (p : FVec F S_ .f32) (x : FVec F S2684354 .f32) : FVec F S2684354 .f32 :=
  select (cmpf .olt u (broadcastInDim S2684354 ![] bcast_S_S2684354 p))
    (Host.divf x (broadcastInDim S2684354 ![] bcast_S_S2684354 (constant S_ .f32 0x3F000000#32)))
    (broadcastInDim S2684354 ![] bcast_S_S2684354 (constant S_ .f32 0x00000000#32))

/-- The second result: the selection by the uniform numbers of the words. -/
theorem end_v11 (V : Valuation τ sig (Elt F)) : after opsEnd V (main_v11 : DevRef τ sig)
    = hsel (huni (xori (V (main_call0_call0_v15_0 : DevRef τ sig)) (V (main_call0_call0_v15_1 : DevRef τ sig)))
        (V (main_call0_call0_v2 : DevRef τ sig)) (V (main_call0_call0_v3 : DevRef τ sig)))
      (V (main_cst : DevRef τ sig)) (V (main_arg1 : DevRef τ sig)) := by
  unfold opsEnd
  after_results_simp
  rfl

/-- The last stretch leaves the arguments alone. -/
theorem end_arg0 (V : Valuation τ sig (Elt F)) :
    after opsEnd V (main_arg0 : DevRef τ sig) = V (main_arg0 : DevRef τ sig) := by
  unfold opsEnd
  after_results_simp

/-- The same of the second argument. -/
theorem end_arg1 (V : Valuation τ sig (Elt F)) :
    after opsEnd V (main_arg1 : DevRef τ sig) = V (main_arg1 : DevRef τ sig) := by
  unfold opsEnd
  after_results_simp

end Cert.Dropout.Ref

end
-- ==== Proof.Mask.lean ====
module

public import proofs.«01_k».proof.Proof.Word
public import Idealize.ShloMosaic.Lib.IdealHost

@[expose] public section

noncomputable section

namespace Cert.Dropout

open Idealize.ShloMosaic

/-! ## The number a word's top bits make, over the extended reals -/

/-- The pattern of a number from one to two, whose fraction is the top 23 bits of the word `w`. -/
def pat (w : BitVec 32) : BitVec 32 := w >>> 9 ||| 1065353216#32

/-- The pattern's sign is clear. -/
theorem pat_sign (w : BitVec 32) : (pat w).extractLsb' 31 1 = 0#1 := by
  apply BitVec.eq_of_getLsbD_eq
  intro i hi
  interval_cases i
  simp [pat]

/-- The pattern's exponent is that of the numbers from one to two. -/
theorem pat_exp (w : BitVec 32) : (pat w).extractLsb' 23 8 = 127#8 := by
  apply BitVec.eq_of_getLsbD_eq
  intro i hi
  interval_cases i <;> simp [pat]

/-- The pattern's fraction is the word without its nine last bits. -/
theorem pat_frac (w : BitVec 32) : (pat w).extractLsb' 0 23 = (w >>> 9).setWidth 23 := by
  apply BitVec.eq_of_getLsbD_eq
  intro i hi
  interval_cases i <;> simp [pat]

/-- The same as a number. -/
theorem pat_frac_nat (w : BitVec 32) : ((pat w).extractLsb' 0 23).toNat = w.toNat / 512 := by
  rw [pat_frac, BitVec.toNat_setWidth, BitVec.toNat_ushiftRight, Nat.shiftRight_eq_div_pow]
  have := w.isLt
  omega

/-- The pattern is the number one and its fraction. -/
theorem ofBits_pat (w : BitVec 32) :
    Ideal.ofBits .f32 (pat w) = ((1 + ((w.toNat / 512 : ℕ) : ℝ) / 8388608 : ℝ) : EReal) := by
  unfold Ideal.ofBits Ideal.ieee
  simp only [Nat.reduceAdd, pat_sign, pat_exp, pat_frac_nat]
  norm_num
  norm_cast
  push_cast
  ring_nf

/-- The uniform number of a word: the pattern's fraction. -/
theorem uni_val (w : BitVec 32) :
    max (0 : EReal) ((Ideal.ofBits .f32 (pat w) - 1) * (1 - 0) + 0) = ((((w.toNat / 512 : ℕ) : ℝ) / 8388608 : ℝ) : EReal) := by
  rw [ofBits_pat]
  have h1 : (1 : EReal) = ((1 : ℝ) : EReal) := rfl
  rw [sub_zero, mul_one, add_zero, h1, ← EReal.coe_sub, add_sub_cancel_left]
  exact max_eq_right (EReal.coe_nonneg.mpr (by positivity))

/-- A uniform number is below one half exactly when its word is not negative as a signed number. -/
theorem uni_lt (w : BitVec 32) :
    ((((w.toNat / 512 : ℕ) : ℝ) / 8388608 : ℝ) : EReal) < (((1 : ℝ) / 2 : ℝ) : EReal) ↔ w.toNat < 2147483648 := by
  rw [EReal.coe_lt_coe_iff, div_lt_iff₀ (by norm_num)]
  have h : ((1 : ℝ) / 2 * 8388608) = ((4194304 : ℕ) : ℝ) := by norm_num
  rw [h, Nat.cast_lt]
  omega

/-- A word is not negative as a signed number exactly when it is below `2^31` as a plain one. -/
theorem sge_zero (w : BitVec 32) : (0#32).sle w = decide (w.toNat < 2147483648) := by
  rw [BitVec.sle_eq_decide]
  have := w.isLt
  simp only [BitVec.toInt_eq_toNat_cond]
  congr 1
  apply propext
  simp
  omega

/-- The probability's pattern is one half. -/
theorem ofBits_half : Ideal.ofBits .f32 0x3F000000#32 = (((1 : ℝ) / 2 : ℝ) : EReal) := by
  simp [Ideal.ofBits, Ideal.ieee, -EReal.coe_mul]
  norm_num

/-- Over the extended reals, a value divided by one half is that value added to itself. -/
theorem div_half (x : EReal) : Ideal.div x (((1 : ℝ) / 2 : ℝ) : EReal) = x + x := by
  have h : (((1 : ℝ) / 2 : ℝ) : EReal) ≠ 0 := by
    rw [Ne, EReal.coe_eq_zero]; norm_num
  rw [Ideal.div, if_neg h, ← EReal.coe_inv]
  have h2 : ((1 : ℝ) / 2)⁻¹ = 2 := by norm_num
  rw [h2]
  induction x with
  | bot => rw [EReal.bot_mul_coe_of_pos (by norm_num)]; rfl
  | top => rw [EReal.top_mul_coe_of_pos (by norm_num)]; rfl
  | coe r => rw [← EReal.coe_mul, ← EReal.coe_add, mul_two]

/-- The value `x` under the mask of the word `w`, as the reference computes it, is what the kernel computes. -/
theorem mask_val (w : BitVec 32) (x : EReal) :
    Scalar.select (Ideal.cmp .olt (max (Ideal.ofBits .f32 0x00000000#32)
        ((Ideal.ofBits .f32 (pat w) - Ideal.ofBits .f32 0x3F800000#32)
            * (Ideal.ofBits .f32 0x3F800000#32 - Ideal.ofBits .f32 0x00000000#32) + Ideal.ofBits .f32 0x00000000#32))
        (Ideal.ofBits .f32 0x3F000000#32))
      (Ideal.div x (Ideal.ofBits .f32 0x3F000000#32)) (Ideal.ofBits .f32 0x00000000#32)
    = keepVal (F := Ideal) w x := by
  rw [Ideal.ofBits_one_f32, Ideal.ofBits_zero_f32, ofBits_half, uni_val, div_half]
  have h : Ideal.cmp .olt ((((w.toNat / 512 : ℕ) : ℝ) / 8388608 : ℝ) : EReal) (((1 : ℝ) / 2 : ℝ) : EReal)
      = IntOp.cmpi .sge w 0#32 := by
    change BitVec.ofBool (decide _) = BitVec.ofBool ((0#32).sle w)
    rw [sge_zero, decide_eq_decide.mpr (uni_lt w)]
  rw [h]
  change _ = Scalar.select (IntOp.cmpi .sge w 0#32) (x + x) (Ideal.ofBits .f32 0x00000000#32)
  rw [Ideal.ofBits_zero_f32]

end Cert.Dropout

end
-- ==== Proof.RefVal.lean ====
module

public import proofs.«01_k».proof.Proof.RefGrp
public import proofs.«01_k».proof.Proof.Mask

@[expose] public section

noncomputable section

namespace Cert.Dropout.Ref

open Cert.ReferenceIdeal Cert.ReferenceIdeal.Gen

open Idealize.ShloMosaic Idealize.ShloMosaic.TcCoe Idealize.ShloMosaic.StableHlo Idealize.SL.Sem

variable {F : FTy → Type} [FloatOps F]

/-! ## The reference's rounds at an index -/

/-- A round of whole arrays on the host is, at each index, a round of the two words there. -/
theorem at2_hrnd (a b : BitVec 32) (n : ℕ) (hn : n < 32) (hn0 : 0 < n) (ha : a.toNat = n) (hb : b.toNat = 32 - n)
    (p : HVec × HVec) (j : S2684354.Idx) : at2 (hrnd a b p) j = rnd n (at2 p j) := by
  have hl : IntOp.shli .host (p.2 j) a = p.2 j <<< n := by
    unfold IntOp.shli; rw [if_pos (by omega), BitVec.shiftLeft_eq', ha]
  have hr : IntOp.shrui .host (p.2 j) b = p.2 j >>> (32 - n) := by
    unfold IntOp.shrui; rw [if_pos (by omega), BitVec.ushiftRight_eq', hb]
  refine Prod.ext rfl ?_
  change (p.1 j + p.2 j) ^^^ (IntOp.shli .host (p.2 j) a ||| IntOp.shrui .host (p.2 j) b) = _
  rw [hl, hr, BitVec.xor_comm]; rfl

/-- Four rounds of the first kind at an index. -/
theorem at2_hgrpA (p : HVec × HVec) (j : S2684354.Idx) : at2 (hgrpA p) j = grpA (at2 p j) := by
  unfold hgrpA grpA
  rw [at2_hrnd _ _ 6 (by decide) (by decide) rfl rfl, at2_hrnd _ _ 26 (by decide) (by decide) rfl rfl,
    at2_hrnd _ _ 15 (by decide) (by decide) rfl rfl, at2_hrnd _ _ 13 (by decide) (by decide) rfl rfl]

/-- Four rounds of the second kind at an index. -/
theorem at2_hgrpB (p : HVec × HVec) (j : S2684354.Idx) : at2 (hgrpB p) j = grpB (at2 p j) := by
  unfold hgrpB grpB
  rw [at2_hrnd _ _ 24 (by decide) (by decide) rfl rfl, at2_hrnd _ _ 16 (by decide) (by decide) rfl rfl,
    at2_hrnd _ _ 29 (by decide) (by decide) rfl rfl, at2_hrnd _ _ 17 (by decide) (by decide) rfl rfl]

/-- The key words and the group's number put in: the number goes with the second key word. -/
theorem at2_hinj (k l c d : BitVec 32) (hd : l + c = d) (p : HVec × HVec) (j : S2684354.Idx) :
    at2 (hinj (constantI S_ 32 k) (constantI S_ 32 l) c p) j = inj k d (at2 p j) := by
  refine Prod.ext rfl ?_
  change (p.2 j + l) + c = p.2 j + d
  rw [BitVec.add_assoc, hd]

/-! ## The reference's counters -/

/-- The counter at an index is the index. -/
theorem cnt_at (j : S2684354.Idx) : cnt j = BitVec.ofNat 64 (j 0).val := by
  change 1#64 * BitVec.ofNat 64 (j 0).val = _
  rw [BitVec.one_mul]

/-- Its low half is the index as a word. -/
theorem cnt_lo (j : S2684354.Idx) : trunci 32 cnt natLt_32_64 j = BitVec.ofNat 32 (j 0).val := by
  change (cnt j).setWidth 32 = _
  rw [cnt_at]
  generalize (j 0).val = n
  apply BitVec.eq_of_toNat_eq
  simp only [BitVec.toNat_setWidth, BitVec.toNat_ofNat]
  omega

/-- Its high half is zero. -/
theorem cnt_hi (j : S2684354.Idx) : trunci 32 (Host.shrui cnt
    (broadcastInDim S2684354 ![] bcast_S_S2684354 (constantI S_ 64 32#64))) natLt_32_64 j = 0#32 := by
  change (IntOp.shrui .host (cnt j) 32#64).setWidth 32 = _
  have hj : (j 0).val < 2684354 := (j 0).isLt
  rw [cnt_at]
  generalize (j 0).val = n at hj
  unfold IntOp.shrui
  rw [if_pos (by decide), BitVec.ushiftRight_eq']
  apply BitVec.eq_of_toNat_eq
  simp only [BitVec.toNat_setWidth, BitVec.toNat_ushiftRight, BitVec.toNat_ofNat, Nat.shiftRight_eq_div_pow]
  norm_num
  omega

/-! ## The reference's words -/

variable (V : Valuation τ sig (Elt F))

/-- What the reference leaves after the first stretch, and after each group. -/
def wIni : Valuation τ sig (Elt F) := after opsIni (after opsKey V)
def w0 : Valuation τ sig (Elt F) := after opsGrp0 (wIni V)
def w1 : Valuation τ sig (Elt F) := after opsGrp1 (w0 V)
def w2 : Valuation τ sig (Elt F) := after opsGrp2 (w1 V)
def w3 : Valuation τ sig (Elt F) := after opsGrp3 (w2 V)
def w4 : Valuation τ sig (Elt F) := after opsGrp4 (w3 V)

/-- The reference is the last stretch after the fifth group. -/
theorem after_ops : after ops V = after opsEnd (w4 V) := by
  simp only [ops, after_append]
  rfl

/-- The key words are `0`, `42` and `466689008` in `W`. -/
def Keys (W : Valuation τ sig (Elt F)) : Prop :=
  W (main_call0_call0_v5 : DevRef τ sig) = constantI S_ 32 0#32
    ∧ W (main_call0_call0_v7 : DevRef τ sig) = constantI S_ 32 42#32
    ∧ W (main_call0_call0_call0_v1 : DevRef τ sig) = constantI S_ 32 466689008#32

/-- The key words stay where the fixed buffers do. -/
theorem Keys.keeps {V W : Valuation τ sig (Elt F)} (h : Keys V) (k : Keeps fixedGrp V W) : Keys W :=
  ⟨(k _ (by decide)).trans h.1, (k _ (by decide)).trans h.2.1, (k _ (by decide)).trans h.2.2⟩

/-- The generator leaves the fixed buffers alone, up to each group. -/
theorem keeps_grp : Keeps fixedGrp (wIni V) (w0 V) ∧ Keeps fixedGrp (wIni V) (w1 V) ∧ Keeps fixedGrp (wIni V) (w2 V)
    ∧ Keeps fixedGrp (wIni V) (w3 V) ∧ Keeps fixedGrp (wIni V) (w4 V) :=
  have h0 := grp0_keeps (wIni V)
  have h1 := h0.trans (grp1_keeps (w0 V))
  have h2 := h1.trans (grp2_keeps (w1 V))
  have h3 := h2.trans (grp3_keeps (w2 V))
  ⟨h0, h1, h2, h3, h3.trans (grp4_keeps (w3 V))⟩

/-- The key words are these from the start. -/
theorem keys_ini : Keys (wIni V) := by
  refine ⟨(ini_keeps _ _ (by decide)).trans (key_v5 V), (ini_keeps _ _ (by decide)).trans (key_v7 V), (ini_v1 _).trans ?_⟩
  rw [key_v5, key_v7]
  exact funext fun _ => (by decide : (0#32 ^^^ 42#32) ^^^ 466688986#32 = 466689008#32)

/-- The generator leaves the fixed buffers alone. -/
theorem keeps_w4 : Keeps fixed (after opsKey V) (w4 V) :=
  (ini_keeps _).trans fun r hr => (keeps_grp V).2.2.2.2 r (List.mem_cons_of_mem _ hr)

/-- The two words the generator starts from: the high half of the counter, which is zero, and the counter with the key
    `42` added. -/
theorem start_at (j : S2684354.Idx) :
    at2 (wIni V (main_call0_call0_call0_v3 : DevRef τ sig), wIni V (main_call0_call0_call0_v5 : DevRef τ sig)) j
      = (0#32, BitVec.ofNat 32 (j 0).val + 42#32) := by
  unfold wIni
  rw [ini_words, key_v5, key_v7, key_v13, key_v14]
  refine Prod.ext ?_ ?_
  · change trunci 32 (Host.shrui cnt _) natLt_32_64 j + 0#32 = _
    rw [cnt_hi]
    rfl
  · change trunci 32 cnt natLt_32_64 j + 42#32 = _
    rw [cnt_lo]

/-- The two words the generator ends in, from those it starts from. -/
theorem words_at (j : S2684354.Idx) :
    at2 (w4 V (main_call0_call0_v15_0 : DevRef τ sig), w4 V (main_call0_call0_v15_1 : DevRef τ sig)) j
      = inj 466689008#32 5#32 (grpA (mid (at2
          (wIni V (main_call0_call0_call0_v3 : DevRef τ sig), wIni V (main_call0_call0_call0_v5 : DevRef τ sig)) j))) := by
  have K := keys_ini V
  obtain ⟨h0, h1, h2, h3, -⟩ := keeps_grp V
  unfold w4 mid
  rw [grp4_words, (K.keeps h3).1, (K.keeps h3).2.2, at2_hinj _ _ _ 5#32 (by decide), at2_hgrpA]
  unfold w3
  rw [grp3_words, (K.keeps h2).2.1, (K.keeps h2).2.2, at2_hinj _ _ _ 466689012#32 (by decide), at2_hgrpB]
  unfold w2
  rw [grp2_words, (K.keeps h1).1, (K.keeps h1).2.1, at2_hinj _ _ _ 45#32 (by decide), at2_hgrpA]
  unfold w1
  rw [grp1_words, (K.keeps h0).1, (K.keeps h0).2.2, at2_hinj _ _ _ 2#32 (by decide), at2_hgrpB]
  unfold w0
  rw [grp0_words, K.2.1, K.2.2, at2_hinj _ _ _ 466689009#32 (by decide), at2_hgrpA]

/-- The words the reference makes are the random words of the counters. -/
theorem ref_word (j : S2684354.Idx) :
    xori (w4 V (main_call0_call0_v15_0 : DevRef τ sig)) (w4 V (main_call0_call0_v15_1 : DevRef τ sig)) j
      = bits (BitVec.ofNat 32 (j 0).val) := by
  have h := words_at V j
  rw [start_at] at h
  have h1 := congrArg Prod.fst h
  have h2 := congrArg Prod.snd h
  exact congrArg₂ (fun a b : BitVec 32 => a ^^^ b) h1 h2

/-! ## The reference's results -/

/-- The nine last bits of a word shifted out on the host. -/
theorem shr_nine (v : BitVec 32) : IntOp.shrui .host v 9#32 = v >>> 9 := by
  unfold IntOp.shrui
  rw [if_pos (by decide), BitVec.ushiftRight_eq']
  rfl

/-- The uniform numbers from zero to one at an index. -/
theorem huni_at (w : HVec) (j : S2684354.Idx) :
    huni (F := F) w (broadcastInDim S1 ![] bcast_S_S1 (constant S_ .f32 0x00000000#32))
        (broadcastInDim S1 ![] bcast_S_S1 (constant S_ .f32 0x3F800000#32)) j
      = FloatOps.maximumf (FloatOps.ofBits .f32 0x00000000#32)
          (FloatOps.addf
            (FloatOps.mulf
              (FloatOps.subf (FloatOps.ofBits .f32 (IntOp.shrui .host (w j) 9#32 ||| 1065353216#32))
                (FloatOps.ofBits .f32 0x3F800000#32))
              (FloatOps.subf (FloatOps.ofBits .f32 0x3F800000#32) (FloatOps.ofBits .f32 0x00000000#32)))
            (FloatOps.ofBits .f32 0x00000000#32)) := rfl

/-- The selection at an index. -/
theorem hsel_at (u x : FVec F S2684354 .f32) (j : S2684354.Idx) : hsel u (constant S_ .f32 0x3F000000#32) x j
    = Scalar.select (FloatOps.cmpf .olt (u j) (FloatOps.ofBits .f32 0x3F000000#32))
        (FloatOps.hostDivf (x j) (FloatOps.ofBits .f32 0x3F000000#32)) (FloatOps.ofBits .f32 0x00000000#32) := rfl

/-- Over the extended reals, the reference keeps the value at an index by the word there. -/
theorem keep_at (w : HVec) (x : FVec Ideal S2684354 .f32) (j : S2684354.Idx) :
    hsel (F := Ideal) (huni w (broadcastInDim S1 ![] bcast_S_S1 (constant S_ .f32 0x00000000#32))
        (broadcastInDim S1 ![] bcast_S_S1 (constant S_ .f32 0x3F800000#32))) (constant S_ .f32 0x3F000000#32) x j
      = keepVal (F := Ideal) (w j) (x j) := by
  rw [hsel_at, huni_at, shr_nine]
  exact mask_val (w j) (x j)

/-- The reference's second result from any contents. -/
theorem after_v11 : after ops V (main_v11 : DevRef τ sig)
    = hsel (huni (xori (w4 V (main_call0_call0_v15_0 : DevRef τ sig)) (w4 V (main_call0_call0_v15_1 : DevRef τ sig)))
        (broadcastInDim S1 ![] bcast_S_S1 (constant S_ .f32 0x00000000#32))
        (broadcastInDim S1 ![] bcast_S_S1 (constant S_ .f32 0x3F800000#32)))
      (constant S_ .f32 0x3F000000#32) (V (main_arg1 : DevRef τ sig)) := by
  have h := keeps_w4 V
  rw [after_ops, end_v11, h main_cst (by decide), h main_call0_call0_v2 (by decide), h main_call0_call0_v3 (by decide),
    h main_arg1 (by decide), key_cst, key_v2, key_v3, key_arg1]

/-- The reference's second result, over the extended reals: the value at index `i`, kept by the random word of the counter
    `i`. -/
theorem ref_v11 (U : Valuation τ sig (Elt Ideal)) (j : S2684354.Idx) : after ops U (main_v11 : DevRef τ sig) j
    = keepVal (F := Ideal) (bits (BitVec.ofNat 32 (j 0).val)) (U (main_arg1 : DevRef τ sig) j) :=
  (congrFun (after_v11 U) j).trans ((keep_at _ _ j).trans
    (congrArg (fun w => keepVal (F := Ideal) w (U (main_arg1 : DevRef τ sig) j)) (ref_word U j)))

/-- The reference leaves its arguments alone. -/
theorem ref_arg0 : after ops V (main_arg0 : DevRef τ sig) = V (main_arg0 : DevRef τ sig) := by
  rw [after_ops, end_arg0, keeps_w4 V main_arg0 (by decide), key_arg0]

/-- The same of the second argument. -/
theorem ref_arg1 : after ops V (main_arg1 : DevRef τ sig) = V (main_arg1 : DevRef τ sig) := by
  rw [after_ops, end_arg1, keeps_w4 V main_arg1 (by decide), key_arg1]

end Cert.Dropout.Ref

end
-- ==== Proof.Claims.lean ====
module

public import proofs.«01_k».proof.Proof.Frames
public import proofs.«01_k».proof.Proof.Out
public import proofs.«01_k».proof.Proof.RefVal

@[expose] public section

noncomputable section

namespace Cert.Dropout

open Idealize.ShloMosaic Idealize.ShloMosaic.TcCoe Idealize.ShloMosaic.StableHlo Idealize.SL.Sem

/-- The reference, over the extended reals: it runs to its end, its arguments unchanged and its counters at zero. -/
theorem frame_reference : Cert.quiescent_ReferenceIdeal := fun m ρ _ =>
  θ_run_mono (Ref.run_ref m ρ) fun _ h =>
    ⟨fun c => ⟨(h c _).trans (Ref.ref_arg0 _), (h c _).trans (Ref.ref_arg1 _)⟩, sem_eq_zero_of_no_sems rfl _⟩

/-- The reference's second result is the kernel's, as a whole array. -/
theorem ref_out (U : Valuation Cert.ReferenceIdeal.τ Cert.ReferenceIdeal.sig (Elt Ideal)) :
    after Ref.ops U (Cert.ReferenceIdeal.main_v11 : DevRef Cert.ReferenceIdeal.τ Cert.ReferenceIdeal.sig)
      = outVal (F := Ideal) (U (Cert.ReferenceIdeal.main_arg1 : DevRef Cert.ReferenceIdeal.τ Cert.ReferenceIdeal.sig)) :=
  funext fun j => Ref.ref_v11 U j

/-- Over the extended reals, the kernel and the reference leave the same results from the same arguments. -/
theorem same_results : Cert.algebraic_KernelIdeal_ReferenceIdeal := fun m ρ m' ρ' _ hm =>
  ⟨fun c => m ((c.tc : Thread Cert.KernelIdeal.nD Cert.KernelIdeal.τ).loc Cert.KernelIdeal.main_arg0),
    fun c => outVal (F := Ideal) (m ((c.tc : Thread Cert.KernelIdeal.nD Cert.KernelIdeal.τ).loc Cert.KernelIdeal.main_arg1)),
    run_any m ρ,
    θ_run_mono (Ref.run_ref m' ρ') fun _ h c => ⟨((h c _).trans (Ref.ref_arg0 _)).trans (hm c).1,
      ((h c _).trans (ref_out _)).trans (congrArg (outVal (F := Ideal)) (hm c).2),
      (h c _).trans (Ref.ref_arg0 _), (h c _).trans (Ref.ref_arg1 _)⟩⟩

end Cert.Dropout

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Dropout.frame_kernel, Cert.Dropout.frame_kernelIdeal, Cert.Dropout.frame_reference, trivial,
    Cert.Dropout.same_results⟩

end Cert.Proof

end
